-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "step" .f32 0x3E088889#32 ((2 / 15 : ℝ) : EReal)
  ∧ IdealRules.named_const.Statement Cert.KernelIdeal.κ "two_over_side" .f32 0x3C124925#32 ((1 / 112 : ℝ) : EReal)
  ∧ IdealRules.named_const.Statement Cert.KernelIdeal.κ "inv2s2" .f32 0x43480000#32 ((1073741824 / 5368709 : ℝ) : EReal)

def algebraic_KernelIdeal_ReferenceIdeal_on_nonempty [hKernelIdeal : Cert.KernelIdeal.Facts] [hReferenceIdeal : Cert.ReferenceIdeal.Facts] [hOn_nonempty : Cert.On_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![1024, 2, 16, 16]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v20) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![1024, 2, 16, 16]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v118) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_close_pre_in_range [hKernelIdeal : Cert.KernelIdeal.Facts] [hPre_in_range : Cert.Pre_in_range.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v20))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_close : Cert.Post_close.Facts) (hOn_nonempty : Cert.On_nonempty.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ preserves_Kernel_KernelIdeal
    ∧ algebraic_KernelIdeal_ReferenceIdeal_on_nonempty (hKernelIdeal := hKernelIdeal) (hReferenceIdeal := hReferenceIdeal) (hOn_nonempty := hOn_nonempty)
    ∧ holds_KernelIdeal_close_pre_in_range (hKernelIdeal := hKernelIdeal) (hPre_in_range := hPre_in_range) (hPost_close := hPost_close)
-- ==== On_nonempty.lean ====
abbrev S4x224x224 : Shape := ⟨3, ![4, 224, 224]⟩
abbrev S3x200704 : Shape := ⟨2, ![3, 200704]⟩
abbrev S4x2x224x224 : Shape := ⟨4, ![4, 2, 224, 224]⟩
abbrev S1024x200704 : Shape := ⟨2, ![1024, 200704]⟩
abbrev S1x200704 : Shape := ⟨2, ![1, 200704]⟩
abbrev S_ : Shape := ⟨0, ![]⟩
abbrev S1024 : Shape := ⟨1, ![1024]⟩
abbrev S1024x2x16x16 : Shape := ⟨4, ![1024, 2, 16, 16]⟩

class Facts : Prop where
  shapeCasts_S4x224x224_S1x200704 : S4x224x224.ShapeCasts S1x200704
  bcast_S1x200704_S1024x200704_0_1 : S1x200704.BroadcastsInDim S1024x200704 (![0, 1] : Fin 2 → Fin S1024x200704.rank)
  reducesTo_S1024x200704_S1024_d1 : S1024x200704.ReducesTo [1] S1024
  h_S_ : 0 < S_.numel
  bcast_S1024_S1024x2x16x16_0 : S1024.BroadcastsInDim S1024x2x16x16 (![0] : Fin 1 → Fin S1024x2x16x16.rank)

variable [Facts]

def fn {F : FTy → Type} [FloatOps F] (main_arg0 : IVec S4x224x224 32) (main_arg1 : IVec S3x200704 32) (main_arg2 : FVec F S4x2x224x224 .f32) : IVec S1024x2x16x16 1 :=
  let main_v0 : IVec S1024x200704 32 := iotaInDim S1024x200704 32 0
  let main_v1 : IVec S1x200704 32 := shapeCast S1x200704 main_arg0 shapeCasts_S4x224x224_S1x200704
  let main_v2 : IVec S1024x200704 32 := broadcastInDim S1024x200704 ![0, 1] bcast_S1x200704_S1024x200704_0_1 main_v1
  let main_v3 : IVec S1024x200704 1 := cmpi .eq main_v0 main_v2
  let main_c : IVec S_ 1 := constantI S_ 1 0#1
  let main_v4 : IVec S1024 1 := (fun x v => Host.reduce IntOp.ori x v reducesTo_S1024x200704_S1024_d1 h_S_) main_v3 main_c
  let main_v5 : IVec S1024x2x16x16 1 := broadcastInDim S1024x2x16x16 ![0] bcast_S1024_S1024x2x16x16_0 main_v4
  main_v5
-- ==== Post_close.lean ====
abbrev S4x224x224 : Shape := ⟨3, ![4, 224, 224]⟩
abbrev S3x200704 : Shape := ⟨2, ![3, 200704]⟩
abbrev S4x2x224x224 : Shape := ⟨4, ![4, 2, 224, 224]⟩
abbrev S1024x2x16x16 : Shape := ⟨4, ![1024, 2, 16, 16]⟩
abbrev S2 : Shape := ⟨1, ![2]⟩
abbrev S200704 : Shape := ⟨1, ![200704]⟩
abbrev S2x200704 : Shape := ⟨2, ![2, 200704]⟩
abbrev S200704x2 : Shape := ⟨2, ![200704, 2]⟩
abbrev S_ : Shape := ⟨0, ![]⟩
abbrev S1x2 : Shape := ⟨2, ![1, 2]⟩
abbrev S4x224x224x2 : Shape := ⟨4, ![4, 224, 224, 2]⟩
abbrev S200704x4 : Shape := ⟨2, ![200704, 4]⟩
abbrev S200704x1 : Shape := ⟨2, ![200704, 1]⟩
abbrev S15 : Shape := ⟨1, ![15]⟩
abbrev S1 : Shape := ⟨1, ![1]⟩
abbrev S16 : Shape := ⟨1, ![16]⟩
abbrev S1x16 : Shape := ⟨2, ![1, 16]⟩
abbrev S200704x16 : Shape := ⟨2, ![200704, 16]⟩
abbrev S200704x16x1 : Shape := ⟨3, ![200704, 16, 1]⟩
abbrev S200704x1x16 : Shape := ⟨3, ![200704, 1, 16]⟩
abbrev S200704x16x16 : Shape := ⟨3, ![200704, 16, 16]⟩
abbrev S1024x16x16 : Shape := ⟨3, ![1024, 16, 16]⟩
abbrev S1024x1x16x16 : Shape := ⟨4, ![1024, 1, 16, 16]⟩
abbrev S1024 : Shape := ⟨1, ![1024]⟩
abbrev S1024x1x1x1 : Shape := ⟨4, ![1024, 1, 1, 1]⟩

class Facts : Prop where
  shapeCasts_S4x224x224_S200704 : S4x224x224.ShapeCasts S200704
  slices_S3x200704_S2x200704_1_0 : S3x200704.Slices ![1, 0] S2x200704
  transposes_S2x200704_S200704x2_1_0 : S2x200704.Transposes [1, 0] S200704x2
  bcast_S_S200704x2 : S_.BroadcastsInDim S200704x2 (![] : Fin 0 → Fin S200704x2.rank)
  bcast_S2_S1x2_1 : S2.BroadcastsInDim S1x2 (![1] : Fin 1 → Fin S1x2.rank)
  bcast_S1x2_S200704x2_0_1 : S1x2.BroadcastsInDim S200704x2 (![0, 1] : Fin 2 → Fin S200704x2.rank)
  transposes_S4x2x224x224_S4x224x224x2_0_2_3_1 : S4x2x224x224.Transposes [0, 2, 3, 1] S4x224x224x2
  shapeCasts_S4x224x224x2_S200704x2 : S4x224x224x2.ShapeCasts S200704x2
  concatenates_S200704x2_S200704x2_S200704x4_d1 : Shape.Concatenates [S200704x2, S200704x2] S200704x4 1
  slices_S200704x4_S200704x1_0_0 : S200704x4.Slices ![0, 0] S200704x1
  shapeCasts_S200704x1_S200704 : S200704x1.ShapeCasts S200704
  bcast_S_S15 : S_.BroadcastsInDim S15 (![] : Fin 0 → Fin S15.rank)
  shapeCasts_S_S1 : S_.ShapeCasts S1
  bcast_S1_S15_0 : S1.BroadcastsInDim S15 (![0] : Fin 1 → Fin S15.rank)
  bcast_S_S1 : S_.BroadcastsInDim S1 (![] : Fin 0 → Fin S1.rank)
  concatenates_S15_S1_S16_d0 : Shape.Concatenates [S15, S1] S16 0
  bcast_S200704_S200704x1_0 : S200704.BroadcastsInDim S200704x1 (![0] : Fin 1 → Fin S200704x1.rank)
  bcast_S16_S1x16_1 : S16.BroadcastsInDim S1x16 (![1] : Fin 1 → Fin S1x16.rank)
  bcast_S200704x1_S200704x16_0_1 : S200704x1.BroadcastsInDim S200704x16 (![0, 1] : Fin 2 → Fin S200704x16.rank)
  bcast_S1x16_S200704x16_0_1 : S1x16.BroadcastsInDim S200704x16 (![0, 1] : Fin 2 → Fin S200704x16.rank)
  bcast_S_S200704x16 : S_.BroadcastsInDim S200704x16 (![] : Fin 0 → Fin S200704x16.rank)
  reducesTo_S200704x16_S200704_d1 : S200704x16.ReducesTo [1] S200704
  h_S_ : 0 < S_.numel
  bcast_S_S200704x1 : S_.BroadcastsInDim S200704x1 (![] : Fin 0 → Fin S200704x1.rank)
  slices_S200704x4_S200704x1_0_1 : S200704x4.Slices ![0, 1] S200704x1
  bcast_S200704x16_S200704x16x1_0_1 : S200704x16.BroadcastsInDim S200704x16x1 (![0, 1] : Fin 2 → Fin S200704x16x1.rank)
  bcast_S200704x16_S200704x1x16_0_2 : S200704x16.BroadcastsInDim S200704x1x16 (![0, 2] : Fin 2 → Fin S200704x1x16.rank)
  bcast_S200704x16x1_S200704x16x16_0_1_2 : S200704x16x1.BroadcastsInDim S200704x16x16 (![0, 1, 2] : Fin 3 → Fin S200704x16x16.rank)
  bcast_S200704x1x16_S200704x16x16_0_1_2 : S200704x1x16.BroadcastsInDim S200704x16x16 (![0, 1, 2] : Fin 3 → Fin S200704x16x16.rank)
  bcast_S_S1024x16x16 : S_.BroadcastsInDim S1024x16x16 (![] : Fin 0 → Fin S1024x16x16.rank)
  slices_S200704x4_S200704x1_0_2 : S200704x4.Slices ![0, 2] S200704x1
  slices_S200704x4_S200704x1_0_3 : S200704x4.Slices ![0, 3] S200704x1
  bcast_S1024x16x16_S1024x1x16x16_0_2_3 : S1024x16x16.BroadcastsInDim S1024x1x16x16 (![0, 2, 3] : Fin 3 → Fin S1024x1x16x16.rank)
  concatenates_S1024x1x16x16_S1024x1x16x16_S1024x2x16x16_d1 : Shape.Concatenates [S1024x1x16x16, S1024x1x16x16] S1024x2x16x16 1
  bcast_S_S1024 : S_.BroadcastsInDim S1024 (![] : Fin 0 → Fin S1024.rank)
  bcast_S_S200704 : S_.BroadcastsInDim S200704 (![] : Fin 0 → Fin S200704.rank)
  bcast_S1024_S1024x1x1x1_0 : S1024.BroadcastsInDim S1024x1x1x1 (![0] : Fin 1 → Fin S1024x1x1x1.rank)
  bcast_S1024x1x1x1_S1024x2x16x16_0_1_2_3 : S1024x1x1x1.BroadcastsInDim S1024x2x16x16 (![0, 1, 2, 3] : Fin 4 → Fin S1024x2x16x16.rank)
  bcast_S_S1024x2x16x16 : S_.BroadcastsInDim S1024x2x16x16 (![] : Fin 0 → Fin S1024x2x16x16.rank)
  scatter_S1024x16x16_S200704x1_S200704x16x16_12_0_0_1_wf : ScatterDims.WF S1024x16x16 S200704x1 S200704x16x16 [1, 2] [0] [0] 1
  scatter_S1024_S200704x1_S200704_n_0_0_1_wf : ScatterDims.WF S1024 S200704x1 S200704 [] [0] [0] 1

variable [Facts]

def scatter_S1024x16x16_S200704x1_S200704x16x16_12_0_0_1 : ScatterDims S1024x16x16 S200704x1 S200704x16x16 where
  updateWindowDims := [1, 2]
  insertedWindowDims := [0]
  scatterDimsToOperandDims := [0]
  indexVectorDim := 1
  wf := scatter_S1024x16x16_S200704x1_S200704x16x16_12_0_0_1_wf
def scatter_S1024_S200704x1_S200704_n_0_0_1 : ScatterDims S1024 S200704x1 S200704 where
  updateWindowDims := []
  insertedWindowDims := [0]
  scatterDimsToOperandDims := [0]
  indexVectorDim := 1
  wf := scatter_S1024_S200704x1_S200704_n_0_0_1_wf
def fn_linspace {F : FTy → Type} [FloatOps F] (arg0 : FVec F S_ .f32) (arg1 : FVec F S_ .f32) : FVec F S16 .f32 :=
  let v0 : FVec F S_ .f32 := id arg0
  let v1 : FVec F S_ .f32 := id arg1
  let v2 : FVec F S_ .f32 := subf v1 v0
  let cst : FVec F S_ .f32 := constant S_ .f32 0x41700000#32
  let v3 : FVec F S_ .f32 := Host.divf v2 cst
  let v4 : FVec F S15 .f32 := sitofp .f32 (iotaInDim S15 32 0)
  let cst_0 : FVec F S_ .f32 := constant S_ .f32 0x41700000#32
  let v5 : FVec F S15 .f32 := broadcastInDim S15 ![] bcast_S_S15 cst_0
  let v6 : FVec F S15 .f32 := Host.divf v4 v5
  let v7 : FVec F S1 .f32 := shapeCast S1 v0 shapeCasts_S_S1
  let cst_1 : FVec F S_ .f32 := constant S_ .f32 0x3F800000#32
  let v8 : FVec F S15 .f32 := broadcastInDim S15 ![] bcast_S_S15 cst_1
  let v9 : FVec F S15 .f32 := subf v8 v6
  let v10 : FVec F S15 .f32 := broadcastInDim S15 ![0] bcast_S1_S15_0 v7
  let v11 : FVec F S15 .f32 := mulf v10 v9
  let v12 : FVec F S1 .f32 := shapeCast S1 v1 shapeCasts_S_S1
  let v13 : FVec F S15 .f32 := broadcastInDim S15 ![0] bcast_S1_S15_0 v12
  let v14 : FVec F S15 .f32 := mulf v13 v6
  let v15 : FVec F S15 .f32 := addf v11 v14
  let v16 : FVec F S1 .f32 := broadcastInDim S1 ![] bcast_S_S1 v1
  let v17 : FVec F S16 .f32 := (fun a b => concatenate S16 0 [⟨S15, a⟩, ⟨S1, b⟩] concatenates_S15_S1_S16_d0) v15 v16
  v17

def fn_clip {F : FTy → Type} [FloatOps F] (arg0 : IVec S200704 32) (arg1 : IVec S_ 32) : IVec S200704 32 :=
  let v0 : IVec S_ 32 := id arg1
  let v1 : IVec S200704 32 := broadcastInDim S200704 ![] bcast_S_S200704 v0
  let v2 : IVec S200704 32 := maxsi v1 arg0
  v2

def fn_part6 {F : FTy → Type} [FloatOps F] (main_arg3 : FVec F S1024x2x16x16 .f32) (main_v108 : FVec F S1024x2x16x16 .f32) (main_v109 : IVec S1024 32) (main_v110 : IVec S200704 32) (main_v112 : IVec S200704 1) (main_v114 : IVec S200704 32) : IVec S1024x2x16x16 1 :=
  let main_v115 : IVec S200704 32 := select main_v112 main_v114 main_v110
  let main_v116 : IVec S200704x1 32 := broadcastInDim S200704x1 ![0] bcast_S200704_S200704x1_0 main_v115
  let main_c_27 : IVec S_ 32 := constantI S_ 32 1#32
  let main_v117 : IVec S200704 32 := broadcastInDim S200704 ![] bcast_S_S200704 main_c_27
  let main_v118 : IVec S1024 32 := (fun x i u => Host.scatter scatter_S1024_S200704x1_S200704_n_0_0_1 IntOp.addi x i u) main_v109 main_v116 main_v117
  let main_v119 : FVec F S1024 .f32 := sitofp .f32 main_v118
  let main_cst_28 : FVec F S_ .f32 := constant S_ .f32 0x3E800000#32
  let main_v120 : FVec F S1024 .f32 := broadcastInDim S1024 ![] bcast_S_S1024 main_cst_28
  let main_v121 : FVec F S1024 .f32 := mulf main_v119 main_v120
  let main_v122 : FVec F S1024x1x1x1 .f32 := broadcastInDim S1024x1x1x1 ![0] bcast_S1024_S1024x1x1x1_0 main_v121
  let main_v123 : FVec F S1024x2x16x16 .f32 := broadcastInDim S1024x2x16x16 ![0, 1, 2, 3] bcast_S1024x1x1x1_S1024x2x16x16_0_1_2_3 main_v122
  let main_v124 : FVec F S1024x2x16x16 .f32 := Host.divf main_v108 main_v123
  let main_cst_29 : FVec F S_ .f32 := constant S_ .f32 0x00000000#32
  let main_v125 : FVec F S1024 .f32 := broadcastInDim S1024 ![] bcast_S_S1024 main_cst_29
  let main_v126 : IVec S1024 1 := cmpf .oeq main_v119 main_v125
  let main_v127 : IVec S1024x1x1x1 1 := broadcastInDim S1024x1x1x1 ![0] bcast_S1024_S1024x1x1x1_0 main_v126
  let main_v128 : FVec F S1024x2x16x16 .f32 := subf main_arg3 main_v124
  let main_v129 : FVec F S1024x2x16x16 .f32 := Host.absf main_v128
  let main_cst_30 : FVec F S_ .f32 := constant S_ .f32 0x2D2FEBFF#32
  let main_v130 : FVec F S1024x2x16x16 .f32 := broadcastInDim S1024x2x16x16 ![] bcast_S_S1024x2x16x16 main_cst_30
  let main_v131 : FVec F S1024x2x16x16 .f32 := mulf main_v130 main_v124
  let main_v132 : IVec S1024x2x16x16 1 := cmpf .ole main_v129 main_v131
  let main_v133 : IVec S1024x2x16x16 1 := broadcastInDim S1024x2x16x16 ![0, 1, 2, 3] bcast_S1024x1x1x1_S1024x2x16x16_0_1_2_3 main_v127
  let main_v134 : IVec S1024x2x16x16 1 := ori main_v133 main_v132
  main_v134

def fn_part5 {F : FTy → Type} [FloatOps F] (main_arg3 : FVec F S1024x2x16x16 .f32) (main_v0 : IVec S200704 32) (main_v59 : FVec F S1024x16x16 .f32) (main_v78 : FVec F S200704x16 .f32) (main_v91 : FVec F S200704x16 .f32) (main_v95 : FVec F S200704x1 .f32) : IVec S1024x2x16x16 1 :=
  let main_v96 : FVec F S200704x16 .f32 := broadcastInDim S200704x16 ![0, 1] bcast_S200704x1_S200704x16_0_1 main_v95
  let main_v97 : FVec F S200704x16 .f32 := Host.divf main_v91 main_v96
  let main_v98 : FVec F S200704x16x1 .f32 := broadcastInDim S200704x16x1 ![0, 1] bcast_S200704x16_S200704x16x1_0_1 main_v78
  let main_v99 : FVec F S200704x1x16 .f32 := broadcastInDim S200704x1x16 ![0, 2] bcast_S200704x16_S200704x1x16_0_2 main_v97
  let main_v100 : FVec F S200704x16x16 .f32 := broadcastInDim S200704x16x16 ![0, 1, 2] bcast_S200704x16x1_S200704x16x16_0_1_2 main_v98
  let main_v101 : FVec F S200704x16x16 .f32 := broadcastInDim S200704x16x16 ![0, 1, 2] bcast_S200704x1x16_S200704x16x16_0_1_2 main_v99
  let main_v102 : FVec F S200704x16x16 .f32 := mulf main_v100 main_v101
  let main_cst_23 : FVec F S_ .f32 := constant S_ .f32 0x00000000#32
  let main_v103 : FVec F S1024x16x16 .f32 := broadcastInDim S1024x16x16 ![] bcast_S_S1024x16x16 main_cst_23
  let main_v104 : IVec S200704x1 32 := broadcastInDim S200704x1 ![0] bcast_S200704_S200704x1_0 main_v0
  let main_v105 : FVec F S1024x16x16 .f32 := (fun x i u => Host.scatterAdd scatter_S1024x16x16_S200704x1_S200704x16x16_12_0_0_1 x i u) main_v103 main_v104 main_v102
  let main_v106 : FVec F S1024x1x16x16 .f32 := broadcastInDim S1024x1x16x16 ![0, 2, 3] bcast_S1024x16x16_S1024x1x16x16_0_2_3 main_v59
  let main_v107 : FVec F S1024x1x16x16 .f32 := broadcastInDim S1024x1x16x16 ![0, 2, 3] bcast_S1024x16x16_S1024x1x16x16_0_2_3 main_v105
  let main_v108 : FVec F S1024x2x16x16 .f32 := (fun a b => concatenate S1024x2x16x16 1 [⟨S1024x1x16x16, a⟩, ⟨S1024x1x16x16, b⟩] concatenates_S1024x1x16x16_S1024x1x16x16_S1024x2x16x16_d1) main_v106 main_v107
  let main_c : IVec S_ 32 := constantI S_ 32 0#32
  let main_v109 : IVec S1024 32 := broadcastInDim S1024 ![] bcast_S_S1024 main_c
  let main_c_24 : IVec S_ 32 := constantI S_ 32 0#32
  let main_v110 : IVec S200704 32 := fn_clip (F := F) main_v0 main_c_24
  let main_c_25 : IVec S_ 32 := constantI S_ 32 0#32
  let main_v111 : IVec S200704 32 := broadcastInDim S200704 ![] bcast_S_S200704 main_c_25
  let main_v112 : IVec S200704 1 := cmpi .slt main_v110 main_v111
  let main_c_26 : IVec S_ 32 := constantI S_ 32 1024#32
  let main_v113 : IVec S200704 32 := broadcastInDim S200704 ![] bcast_S_S200704 main_c_26
  let main_v114 : IVec S200704 32 := addi main_v110 main_v113
  fn_part6 (F := F) main_arg3 main_v108 main_v109 main_v110 main_v112 main_v114

def fn_part4 {F : FTy → Type} [FloatOps F] (main_arg3 : FVec F S1024x2x16x16 .f32) (main_v0 : IVec S200704 32) (main_v13 : FVec F S200704x4 .f32) (main_v59 : FVec F S1024x16x16 .f32) (main_v72 : FVec F S200704x16 .f32) (main_v76 : FVec F S200704x1 .f32) : IVec S1024x2x16x16 1 :=
  let main_v77 : FVec F S200704x16 .f32 := broadcastInDim S200704x16 ![0, 1] bcast_S200704x1_S200704x16_0_1 main_v76
  let main_v78 : FVec F S200704x16 .f32 := Host.divf main_v72 main_v77
  let main_v79 : FVec F S200704x1 .f32 := (extractStridedSlice S200704x1 ![0, 3] · slices_S200704x4_S200704x1_0_3) main_v13
  let main_v80 : FVec F S200704 .f32 := shapeCast S200704 main_v79 shapeCasts_S200704x1_S200704
  let main_cst_18 : FVec F S_ .f32 := constant S_ .f32 0xBF800000#32
  let main_cst_19 : FVec F S_ .f32 := constant S_ .f32 0x3F800000#32
  let main_v81 : FVec F S16 .f32 := fn_linspace (F := F) main_cst_18 main_cst_19
  let main_v82 : FVec F S200704x1 .f32 := broadcastInDim S200704x1 ![0] bcast_S200704_S200704x1_0 main_v80
  let main_v83 : FVec F S1x16 .f32 := broadcastInDim S1x16 ![1] bcast_S16_S1x16_1 main_v81
  let main_v84 : FVec F S200704x16 .f32 := broadcastInDim S200704x16 ![0, 1] bcast_S200704x1_S200704x16_0_1 main_v82
  let main_v85 : FVec F S200704x16 .f32 := broadcastInDim S200704x16 ![0, 1] bcast_S1x16_S200704x16_0_1 main_v83
  let main_v86 : FVec F S200704x16 .f32 := subf main_v84 main_v85
  let main_v87 : FVec F S200704x16 .f32 := mulf main_v86 main_v86
  let main_v88 : FVec F S200704x16 .f32 := Host.negf main_v87
  let main_cst_20 : FVec F S_ .f32 := constant S_ .f32 0x3BA3D70A#32
  let main_v89 : FVec F S200704x16 .f32 := broadcastInDim S200704x16 ![] bcast_S_S200704x16 main_cst_20
  let main_v90 : FVec F S200704x16 .f32 := Host.divf main_v88 main_v89
  let main_v91 : FVec F S200704x16 .f32 := Host.exp main_v90
  let main_cst_21 : FVec F S_ .f32 := constant S_ .f32 0x00000000#32
  let main_v92 : FVec F S200704 .f32 := (fun x v => Host.reduceAdd x v reducesTo_S200704x16_S200704_d1 h_S_) main_v91 main_cst_21
  let main_v93 : FVec F S200704x1 .f32 := broadcastInDim S200704x1 ![0] bcast_S200704_S200704x1_0 main_v92
  let main_cst_22 : FVec F S_ .f32 := constant S_ .f32 0x2B8CBCCC#32
  let main_v94 : FVec F S200704x1 .f32 := broadcastInDim S200704x1 ![] bcast_S_S200704x1 main_cst_22
  let main_v95 : FVec F S200704x1 .f32 := addf main_v93 main_v94
  fn_part5 (F := F) main_arg3 main_v0 main_v59 main_v78 main_v91 main_v95

def fn_part3 {F : FTy → Type} [FloatOps F] (main_arg3 : FVec F S1024x2x16x16 .f32) (main_v0 : IVec S200704 32) (main_v13 : FVec F S200704x4 .f32) (main_v56 : FVec F S200704x16x16 .f32) (main_v57 : FVec F S1024x16x16 .f32) : IVec S1024x2x16x16 1 :=
  let main_v58 : IVec S200704x1 32 := broadcastInDim S200704x1 ![0] bcast_S200704_S200704x1_0 main_v0
  let main_v59 : FVec F S1024x16x16 .f32 := (fun x i u => Host.scatterAdd scatter_S1024x16x16_S200704x1_S200704x16x16_12_0_0_1 x i u) main_v57 main_v58 main_v56
  let main_v60 : FVec F S200704x1 .f32 := (extractStridedSlice S200704x1 ![0, 2] · slices_S200704x4_S200704x1_0_2) main_v13
  let main_v61 : FVec F S200704 .f32 := shapeCast S200704 main_v60 shapeCasts_S200704x1_S200704
  let main_cst_13 : FVec F S_ .f32 := constant S_ .f32 0xBF800000#32
  let main_cst_14 : FVec F S_ .f32 := constant S_ .f32 0x3F800000#32
  let main_v62 : FVec F S16 .f32 := fn_linspace (F := F) main_cst_13 main_cst_14
  let main_v63 : FVec F S200704x1 .f32 := broadcastInDim S200704x1 ![0] bcast_S200704_S200704x1_0 main_v61
  let main_v64 : FVec F S1x16 .f32 := broadcastInDim S1x16 ![1] bcast_S16_S1x16_1 main_v62
  let main_v65 : FVec F S200704x16 .f32 := broadcastInDim S200704x16 ![0, 1] bcast_S200704x1_S200704x16_0_1 main_v63
  let main_v66 : FVec F S200704x16 .f32 := broadcastInDim S200704x16 ![0, 1] bcast_S1x16_S200704x16_0_1 main_v64
  let main_v67 : FVec F S200704x16 .f32 := subf main_v65 main_v66
  let main_v68 : FVec F S200704x16 .f32 := mulf main_v67 main_v67
  let main_v69 : FVec F S200704x16 .f32 := Host.negf main_v68
  let main_cst_15 : FVec F S_ .f32 := constant S_ .f32 0x3BA3D70A#32
  let main_v70 : FVec F S200704x16 .f32 := broadcastInDim S200704x16 ![] bcast_S_S200704x16 main_cst_15
  let main_v71 : FVec F S200704x16 .f32 := Host.divf main_v69 main_v70
  let main_v72 : FVec F S200704x16 .f32 := Host.exp main_v71
  let main_cst_16 : FVec F S_ .f32 := constant S_ .f32 0x00000000#32
  let main_v73 : FVec F S200704 .f32 := (fun x v => Host.reduceAdd x v reducesTo_S200704x16_S200704_d1 h_S_) main_v72 main_cst_16
  let main_v74 : FVec F S200704x1 .f32 := broadcastInDim S200704x1 ![0] bcast_S200704_S200704x1_0 main_v73
  let main_cst_17 : FVec F S_ .f32 := constant S_ .f32 0x2B8CBCCC#32
  let main_v75 : FVec F S200704x1 .f32 := broadcastInDim S200704x1 ![] bcast_S_S200704x1 main_cst_17
  let main_v76 : FVec F S200704x1 .f32 := addf main_v74 main_v75
  fn_part4 (F := F) main_arg3 main_v0 main_v13 main_v59 main_v72 main_v76

def fn_part2 {F : FTy → Type} [FloatOps F] (main_arg3 : FVec F S1024x2x16x16 .f32) (main_v0 : IVec S200704 32) (main_v13 : FVec F S200704x4 .f32) (main_v32 : FVec F S200704x16 .f32) (main_v36 : FVec F S200704x1 .f32) (main_v37 : FVec F S1x16 .f32) : IVec S1024x2x16x16 1 :=
  let main_v38 : FVec F S200704x16 .f32 := broadcastInDim S200704x16 ![0, 1] bcast_S200704x1_S200704x16_0_1 main_v36
  let main_v39 : FVec F S200704x16 .f32 := broadcastInDim S200704x16 ![0, 1] bcast_S1x16_S200704x16_0_1 main_v37
  let main_v40 : FVec F S200704x16 .f32 := subf main_v38 main_v39
  let main_v41 : FVec F S200704x16 .f32 := mulf main_v40 main_v40
  let main_v42 : FVec F S200704x16 .f32 := Host.negf main_v41
  let main_cst_9 : FVec F S_ .f32 := constant S_ .f32 0x3BA3D70A#32
  let main_v43 : FVec F S200704x16 .f32 := broadcastInDim S200704x16 ![] bcast_S_S200704x16 main_cst_9
  let main_v44 : FVec F S200704x16 .f32 := Host.divf main_v42 main_v43
  let main_v45 : FVec F S200704x16 .f32 := Host.exp main_v44
  let main_cst_10 : FVec F S_ .f32 := constant S_ .f32 0x00000000#32
  let main_v46 : FVec F S200704 .f32 := (fun x v => Host.reduceAdd x v reducesTo_S200704x16_S200704_d1 h_S_) main_v45 main_cst_10
  let main_v47 : FVec F S200704x1 .f32 := broadcastInDim S200704x1 ![0] bcast_S200704_S200704x1_0 main_v46
  let main_cst_11 : FVec F S_ .f32 := constant S_ .f32 0x2B8CBCCC#32
  let main_v48 : FVec F S200704x1 .f32 := broadcastInDim S200704x1 ![] bcast_S_S200704x1 main_cst_11
  let main_v49 : FVec F S200704x1 .f32 := addf main_v47 main_v48
  let main_v50 : FVec F S200704x16 .f32 := broadcastInDim S200704x16 ![0, 1] bcast_S200704x1_S200704x16_0_1 main_v49
  let main_v51 : FVec F S200704x16 .f32 := Host.divf main_v45 main_v50
  let main_v52 : FVec F S200704x16x1 .f32 := broadcastInDim S200704x16x1 ![0, 1] bcast_S200704x16_S200704x16x1_0_1 main_v32
  let main_v53 : FVec F S200704x1x16 .f32 := broadcastInDim S200704x1x16 ![0, 2] bcast_S200704x16_S200704x1x16_0_2 main_v51
  let main_v54 : FVec F S200704x16x16 .f32 := broadcastInDim S200704x16x16 ![0, 1, 2] bcast_S200704x16x1_S200704x16x16_0_1_2 main_v52
  let main_v55 : FVec F S200704x16x16 .f32 := broadcastInDim S200704x16x16 ![0, 1, 2] bcast_S200704x1x16_S200704x16x16_0_1_2 main_v53
  let main_v56 : FVec F S200704x16x16 .f32 := mulf main_v54 main_v55
  let main_cst_12 : FVec F S_ .f32 := constant S_ .f32 0x00000000#32
  let main_v57 : FVec F S1024x16x16 .f32 := broadcastInDim S1024x16x16 ![] bcast_S_S1024x16x16 main_cst_12
  fn_part3 (F := F) main_arg3 main_v0 main_v13 main_v56 main_v57

def fn_part1 {F : FTy → Type} [FloatOps F] (main_arg3 : FVec F S1024x2x16x16 .f32) (main_v0 : IVec S200704 32) (main_v13 : FVec F S200704x4 .f32) (main_v17 : FVec F S200704x1 .f32) (main_v18 : FVec F S1x16 .f32) : IVec S1024x2x16x16 1 :=
  let main_v19 : FVec F S200704x16 .f32 := broadcastInDim S200704x16 ![0, 1] bcast_S200704x1_S200704x16_0_1 main_v17
  let main_v20 : FVec F S200704x16 .f32 := broadcastInDim S200704x16 ![0, 1] bcast_S1x16_S200704x16_0_1 main_v18
  let main_v21 : FVec F S200704x16 .f32 := subf main_v19 main_v20
  let main_v22 : FVec F S200704x16 .f32 := mulf main_v21 main_v21
  let main_v23 : FVec F S200704x16 .f32 := Host.negf main_v22
  let main_cst_4 : FVec F S_ .f32 := constant S_ .f32 0x3BA3D70A#32
  let main_v24 : FVec F S200704x16 .f32 := broadcastInDim S200704x16 ![] bcast_S_S200704x16 main_cst_4
  let main_v25 : FVec F S200704x16 .f32 := Host.divf main_v23 main_v24
  let main_v26 : FVec F S200704x16 .f32 := Host.exp main_v25
  let main_cst_5 : FVec F S_ .f32 := constant S_ .f32 0x00000000#32
  let main_v27 : FVec F S200704 .f32 := (fun x v => Host.reduceAdd x v reducesTo_S200704x16_S200704_d1 h_S_) main_v26 main_cst_5
  let main_v28 : FVec F S200704x1 .f32 := broadcastInDim S200704x1 ![0] bcast_S200704_S200704x1_0 main_v27
  let main_cst_6 : FVec F S_ .f32 := constant S_ .f32 0x2B8CBCCC#32
  let main_v29 : FVec F S200704x1 .f32 := broadcastInDim S200704x1 ![] bcast_S_S200704x1 main_cst_6
  let main_v30 : FVec F S200704x1 .f32 := addf main_v28 main_v29
  let main_v31 : FVec F S200704x16 .f32 := broadcastInDim S200704x16 ![0, 1] bcast_S200704x1_S200704x16_0_1 main_v30
  let main_v32 : FVec F S200704x16 .f32 := Host.divf main_v26 main_v31
  let main_v33 : FVec F S200704x1 .f32 := (extractStridedSlice S200704x1 ![0, 1] · slices_S200704x4_S200704x1_0_1) main_v13
  let main_v34 : FVec F S200704 .f32 := shapeCast S200704 main_v33 shapeCasts_S200704x1_S200704
  let main_cst_7 : FVec F S_ .f32 := constant S_ .f32 0xBF800000#32
  let main_cst_8 : FVec F S_ .f32 := constant S_ .f32 0x3F800000#32
  let main_v35 : FVec F S16 .f32 := fn_linspace (F := F) main_cst_7 main_cst_8
  let main_v36 : FVec F S200704x1 .f32 := broadcastInDim S200704x1 ![0] bcast_S200704_S200704x1_0 main_v34
  let main_v37 : FVec F S1x16 .f32 := broadcastInDim S1x16 ![1] bcast_S16_S1x16_1 main_v35
  fn_part2 (F := F) main_arg3 main_v0 main_v13 main_v32 main_v36 main_v37

def fn {F : FTy → Type} [FloatOps F] (main_arg0 : IVec S4x224x224 32) (main_arg1 : IVec S3x200704 32) (main_arg2 : FVec F S4x2x224x224 .f32) (main_arg3 : FVec F S1024x2x16x16 .f32) : IVec S1024x2x16x16 1 :=
  let main_cst : FVec F S2 .f32 := constant S2 .f32 0x43600000#32
  let main_v0 : IVec S200704 32 := shapeCast S200704 main_arg0 shapeCasts_S4x224x224_S200704
  let main_v1 : IVec S2x200704 32 := (extractStridedSlice S2x200704 ![1, 0] · slices_S3x200704_S2x200704_1_0) main_arg1
  let main_v2 : FVec F S2x200704 .f32 := sitofp .f32 main_v1
  let main_v3 : FVec F S200704x2 .f32 := (transpose S200704x2 [1, 0] · transposes_S2x200704_S200704x2_1_0) main_v2
  let main_cst_0 : FVec F S_ .f32 := constant S_ .f32 0x40000000#32
  let main_v4 : FVec F S200704x2 .f32 := broadcastInDim S200704x2 ![] bcast_S_S200704x2 main_cst_0
  let main_v5 : FVec F S200704x2 .f32 := mulf main_v4 main_v3
  let main_v6 : FVec F S1x2 .f32 := broadcastInDim S1x2 ![1] bcast_S2_S1x2_1 main_cst
  let main_v7 : FVec F S200704x2 .f32 := broadcastInDim S200704x2 ![0, 1] bcast_S1x2_S200704x2_0_1 main_v6
  let main_v8 : FVec F S200704x2 .f32 := Host.divf main_v5 main_v7
  let main_cst_1 : FVec F S_ .f32 := constant S_ .f32 0x3F800000#32
  let main_v9 : FVec F S200704x2 .f32 := broadcastInDim S200704x2 ![] bcast_S_S200704x2 main_cst_1
  let main_v10 : FVec F S200704x2 .f32 := subf main_v8 main_v9
  let main_v11 : FVec F S4x224x224x2 .f32 := (transpose S4x224x224x2 [0, 2, 3, 1] · transposes_S4x2x224x224_S4x224x224x2_0_2_3_1) main_arg2
  let main_v12 : FVec F S200704x2 .f32 := shapeCast S200704x2 main_v11 shapeCasts_S4x224x224x2_S200704x2
  let main_v13 : FVec F S200704x4 .f32 := (fun a b => concatenate S200704x4 1 [⟨S200704x2, a⟩, ⟨S200704x2, b⟩] concatenates_S200704x2_S200704x2_S200704x4_d1) main_v10 main_v12
  let main_v14 : FVec F S200704x1 .f32 := (extractStridedSlice S200704x1 ![0, 0] · slices_S200704x4_S200704x1_0_0) main_v13
  let main_v15 : FVec F S200704 .f32 := shapeCast S200704 main_v14 shapeCasts_S200704x1_S200704
  let main_cst_2 : FVec F S_ .f32 := constant S_ .f32 0xBF800000#32
  let main_cst_3 : FVec F S_ .f32 := constant S_ .f32 0x3F800000#32
  let main_v16 : FVec F S16 .f32 := fn_linspace (F := F) main_cst_2 main_cst_3
  let main_v17 : FVec F S200704x1 .f32 := broadcastInDim S200704x1 ![0] bcast_S200704_S200704x1_0 main_v15
  let main_v18 : FVec F S1x16 .f32 := broadcastInDim S1x16 ![1] bcast_S16_S1x16_1 main_v16
  fn_part1 (F := F) main_arg3 main_v0 main_v13 main_v17 main_v18
-- ==== Pre_in_range.lean ====
abbrev S4x224x224 : Shape := ⟨3, ![4, 224, 224]⟩
abbrev S3x200704 : Shape := ⟨2, ![3, 200704]⟩
abbrev S4x2x224x224 : Shape := ⟨4, ![4, 2, 224, 224]⟩
abbrev S_ : Shape := ⟨0, ![]⟩
abbrev S2x200704 : Shape := ⟨2, ![2, 200704]⟩

class Facts : Prop where
  bcast_S_S4x224x224 : S_.BroadcastsInDim S4x224x224 (![] : Fin 0 → Fin S4x224x224.rank)
  slices_S3x200704_S2x200704_1_0 : S3x200704.Slices ![1, 0] S2x200704
  bcast_S_S2x200704 : S_.BroadcastsInDim S2x200704 (![] : Fin 0 → Fin S2x200704.rank)

variable [Facts]

def fn {F : FTy → Type} [FloatOps F] (main_arg0 : IVec S4x224x224 32) (main_arg1 : IVec S3x200704 32) (main_arg2 : FVec F S4x2x224x224 .f32) : IVec S4x224x224 1 × IVec S2x200704 1 :=
  let main_c : IVec S_ 32 := constantI S_ 32 0#32
  let main_v0 : IVec S4x224x224 32 := broadcastInDim S4x224x224 ![] bcast_S_S4x224x224 main_c
  let main_v1 : IVec S4x224x224 1 := cmpi .sge main_arg0 main_v0
  let main_c_0 : IVec S_ 32 := constantI S_ 32 1024#32
  let main_v2 : IVec S4x224x224 32 := broadcastInDim S4x224x224 ![] bcast_S_S4x224x224 main_c_0
  let main_v3 : IVec S4x224x224 1 := cmpi .slt main_arg0 main_v2
  let main_v4 : IVec S4x224x224 1 := andi main_v1 main_v3
  let main_v5 : IVec S2x200704 32 := (extractStridedSlice S2x200704 ![1, 0] · slices_S3x200704_S2x200704_1_0) main_arg1
  let main_c_1 : IVec S_ 32 := constantI S_ 32 0#32
  let main_v6 : IVec S2x200704 32 := broadcastInDim S2x200704 ![] bcast_S_S2x200704 main_c_1
  let main_v7 : IVec S2x200704 1 := cmpi .sge main_v5 main_v6
  let main_v8 : IVec S2x200704 32 := (extractStridedSlice S2x200704 ![1, 0] · slices_S3x200704_S2x200704_1_0) main_arg1
  let main_c_2 : IVec S_ 32 := constantI S_ 32 224#32
  let main_v9 : IVec S2x200704 32 := broadcastInDim S2x200704 ![] bcast_S_S2x200704 main_c_2
  let main_v10 : IVec S2x200704 1 := cmpi .slt main_v8 main_v9
  let main_v11 : IVec S2x200704 1 := andi main_v7 main_v10
  (main_v4, main_v11)
-- ==== Kernel.lean ====
abbrev S4x224x224 : Shape := ⟨3, ![4, 224, 224]⟩
abbrev S3x200704 : Shape := ⟨2, ![3, 200704]⟩
abbrev S4x2x224x224 : Shape := ⟨4, ![4, 2, 224, 224]⟩
abbrev S200704 : Shape := ⟨1, ![200704]⟩
abbrev S7x1x28672 : Shape := ⟨3, ![7, 1, 28672]⟩
abbrev S1x200704 : Shape := ⟨2, ![1, 200704]⟩
abbrev S4x1x224x224 : Shape := ⟨4, ![4, 1, 224, 224]⟩
abbrev S512x1024 : Shape := ⟨2, ![512, 1024]⟩
abbrev S1x1x28672 : Shape := ⟨3, ![1, 1, 28672]⟩
abbrev S16x1 : Shape := ⟨2, ![16, 1]⟩
abbrev S1024x1 : Shape := ⟨2, ![1024, 1]⟩
abbrev S1x28672 : Shape := ⟨2, ![1, 28672]⟩
abbrev S1x7168 : Shape := ⟨2, ![1, 7168]⟩
abbrev S16x7168 : Shape := ⟨2, ![16, 7168]⟩
abbrev S7168 : Shape := ⟨1, ![7168]⟩
abbrev S16x1x7168 : Shape := ⟨3, ![16, 1, 7168]⟩
abbrev S1x16x7168 : Shape := ⟨3, ![1, 16, 7168]⟩
abbrev S16x16x7168 : Shape := ⟨3, ![16, 16, 7168]⟩
abbrev S256x7168 : Shape := ⟨2, ![256, 7168]⟩
abbrev S512x7168 : Shape := ⟨2, ![512, 7168]⟩
abbrev S1024x7168 : Shape := ⟨2, ![1024, 7168]⟩
abbrev S256x1024 : Shape := ⟨2, ![256, 1024]⟩
abbrev S1024 : Shape := ⟨1, ![1024]⟩
abbrev S1x1024 : Shape := ⟨2, ![1, 1024]⟩
abbrev S2x16x16x1024 : Shape := ⟨4, ![2, 16, 16, 1024]⟩
abbrev S1024x2x16x16 : Shape := ⟨4, ![1024, 2, 16, 16]⟩

abbrev nBuf : Space → Nat
  | .hbm => 24
  | .vmem => 12
  | .smem => 0
  | _ => 0

abbrev bufTy : (tb : Table) → Fin (tcTables nBuf tb) → BufTy
  | .hbm, ⟨0, _⟩ => ⟨S4x224x224, .i32⟩
  | .hbm, ⟨1, _⟩ => ⟨S3x200704, .i32⟩
  | .hbm, ⟨2, _⟩ => ⟨S4x2x224x224, .f32⟩
  | .hbm, ⟨3, _⟩ => ⟨S200704, .i32⟩
  | .hbm, ⟨4, _⟩ => ⟨S7x1x28672, .i32⟩
  | .hbm, ⟨5, _⟩ => ⟨S1x200704, .i32⟩
  | .hbm, ⟨6, _⟩ => ⟨S200704, .i32⟩
  | .hbm, ⟨7, _⟩ => ⟨S200704, .f32⟩
  | .hbm, ⟨8, _⟩ => ⟨S7x1x28672, .f32⟩
  | .hbm, ⟨9, _⟩ => ⟨S1x200704, .i32⟩
  | .hbm, ⟨10, _⟩ => ⟨S200704, .i32⟩
  | .hbm, ⟨11, _⟩ => ⟨S200704, .f32⟩
  | .hbm, ⟨12, _⟩ => ⟨S7x1x28672, .f32⟩
  | .hbm, ⟨13, _⟩ => ⟨S4x1x224x224, .f32⟩
  | .hbm, ⟨14, _⟩ => ⟨S4x224x224, .f32⟩
  | .hbm, ⟨15, _⟩ => ⟨S200704, .f32⟩
  | .hbm, ⟨16, _⟩ => ⟨S7x1x28672, .f32⟩
  | .hbm, ⟨17, _⟩ => ⟨S4x1x224x224, .f32⟩
  | .hbm, ⟨18, _⟩ => ⟨S4x224x224, .f32⟩
  | .hbm, ⟨19, _⟩ => ⟨S200704, .f32⟩
  | .hbm, ⟨20, _⟩ => ⟨S7x1x28672, .f32⟩
  | .hbm, ⟨21, _⟩ => ⟨S512x1024, .f32⟩
  | .hbm, ⟨22, _⟩ => ⟨S2x16x16x1024, .f32⟩
  | .hbm, ⟨23, _⟩ => ⟨S1024x2x16x16, .f32⟩
  | .local _ .vmem, ⟨0, _⟩ => ⟨S1x1x28672, .i32⟩
  | .local _ .vmem, ⟨1, _⟩ => ⟨S1x1x28672, .i32⟩
  | .local _ .vmem, ⟨2, _⟩ => ⟨S1x1x28672, .f32⟩
  | .local _ .vmem, ⟨3, _⟩ => ⟨S1x1x28672, .f32⟩
  | .local _ .vmem, ⟨4, _⟩ => ⟨S1x1x28672, .f32⟩
  | .local _ .vmem, ⟨5, _⟩ => ⟨S1x1x28672, .f32⟩
  | .local _ .vmem, ⟨6, _⟩ => ⟨S1x1x28672, .f32⟩
  | .local _ .vmem, ⟨7, _⟩ => ⟨S1x1x28672, .f32⟩
  | .local _ .vmem, ⟨8, _⟩ => ⟨S1x1x28672, .f32⟩
  | .local _ .vmem, ⟨9, _⟩ => ⟨S1x1x28672, .f32⟩
  | .local _ .vmem, ⟨10, _⟩ => ⟨S512x1024, .f32⟩
  | .local _ .vmem, ⟨11, _⟩ => ⟨S512x1024, .f32⟩
  | _, _ => ⟨S4x224x224, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v446 : BitVec 1 := Scalar.cmpi .eq arg0 c6_i32
  let v447 : BitVec 32 := Scalar.extui v446
  let c0_i32_149 : BitVec 32 := 0#32
  let v448 : BitVec 1 := Scalar.cmpi .ne v447 c0_i32_149
  v448

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x28672 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x28672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x28672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x28672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x28672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv2s2" => some ((1073741824 / 5368709 : ℝ) : EReal)
  | "step" => some ((2 / 15 : ℝ) : EReal)
  | "two_over_side" => some ((1 / 112 : ℝ) : EReal)
  | _ => none
-- ==== ReferenceIdeal.lean ====
abbrev S4x224x224 : Shape := ⟨3, ![4, 224, 224]⟩
abbrev S3x200704 : Shape := ⟨2, ![3, 200704]⟩
abbrev S4x2x224x224 : Shape := ⟨4, ![4, 2, 224, 224]⟩
abbrev S2 : Shape := ⟨1, ![2]⟩
abbrev S200704 : Shape := ⟨1, ![200704]⟩
abbrev S2x200704 : Shape := ⟨2, ![2, 200704]⟩
abbrev S200704x2 : Shape := ⟨2, ![200704, 2]⟩
abbrev S_ : Shape := ⟨0, ![]⟩
abbrev S1x2 : Shape := ⟨2, ![1, 2]⟩
abbrev S4x224x224x2 : Shape := ⟨4, ![4, 224, 224, 2]⟩
abbrev S200704x4 : Shape := ⟨2, ![200704, 4]⟩
abbrev S200704x1 : Shape := ⟨2, ![200704, 1]⟩
abbrev S15 : Shape := ⟨1, ![15]⟩
abbrev S1 : Shape := ⟨1, ![1]⟩
abbrev S16 : Shape := ⟨1, ![16]⟩
abbrev S1x16 : Shape := ⟨2, ![1, 16]⟩
abbrev S200704x16 : Shape := ⟨2, ![200704, 16]⟩
abbrev S200704x16x1 : Shape := ⟨3, ![200704, 16, 1]⟩
abbrev S200704x1x16 : Shape := ⟨3, ![200704, 1, 16]⟩
abbrev S200704x16x16 : Shape := ⟨3, ![200704, 16, 16]⟩
abbrev S1024x16x16 : Shape := ⟨3, ![1024, 16, 16]⟩
abbrev S1024x1x16x16 : Shape := ⟨4, ![1024, 1, 16, 16]⟩
abbrev S1024x2x16x16 : Shape := ⟨4, ![1024, 2, 16, 16]⟩
abbrev S1024 : Shape := ⟨1, ![1024]⟩
abbrev S1024x1x1x1 : Shape := ⟨4, ![1024, 1, 1, 1]⟩

abbrev nBuf : Space → Nat
  | .hbm => 231
  | .vmem => 0
  | .smem => 0
  | _ => 0

abbrev hbmTy0_0 (i : Nat) : BufTy := match i % 128 with
  | 0 => ⟨S4x224x224, .i32⟩
  | 1 => ⟨S3x200704, .i32⟩
  | 2 => ⟨S4x2x224x224, .f32⟩
  | 3 => ⟨S2, .f32⟩
  | 4 => ⟨S200704, .i32⟩
  | 5 => ⟨S2x200704, .i32⟩
  | 6 => ⟨S2x200704, .f32⟩
  | 7 => ⟨S200704x2, .f32⟩
  | 8 => ⟨S_, .f32⟩
  | 9 => ⟨S200704x2, .f32⟩
  | 10 => ⟨S200704x2, .f32⟩
  | 11 => ⟨S1x2, .f32⟩
  | 12 => ⟨S200704x2, .f32⟩
  | 13 => ⟨S200704x2, .f32⟩
  | 14 => ⟨S_, .f32⟩
  | 15 => ⟨S200704x2, .f32⟩
  | 16 => ⟨S200704x2, .f32⟩
  | 17 => ⟨S4x224x224x2, .f32⟩
  | 18 => ⟨S200704x2, .f32⟩
  | 19 => ⟨S200704x4, .f32⟩
  | 20 => ⟨S200704x1, .f32⟩
  | 21 => ⟨S200704, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S15, .f32⟩
  | 30 => ⟨S_, .f32⟩
  | 31 => ⟨S15, .f32⟩
  | 32 => ⟨S15, .f32⟩
  | 33 => ⟨S1, .f32⟩
  | 34 => ⟨S_, .f32⟩
  | 35 => ⟨S15, .f32⟩
  | 36 => ⟨S15, .f32⟩
  | 37 => ⟨S15, .f32⟩
  | 38 => ⟨S15, .f32⟩
  | 39 => ⟨S1, .f32⟩
  | 40 => ⟨S15, .f32⟩
  | 41 => ⟨S15, .f32⟩
  | 42 => ⟨S15, .f32⟩
  | 43 => ⟨S1, .f32⟩
  | 44 => ⟨S16, .f32⟩
  | 45 => ⟨S200704x1, .f32⟩
  | 46 => ⟨S1x16, .f32⟩
  | 47 => ⟨S200704x16, .f32⟩
  | 48 => ⟨S200704x16, .f32⟩
  | 49 => ⟨S200704x16, .f32⟩
  | 50 => ⟨S200704x16, .f32⟩
  | 51 => ⟨S200704x16, .f32⟩
  | 52 => ⟨S_, .f32⟩
  | 53 => ⟨S200704x16, .f32⟩
  | 54 => ⟨S200704x16, .f32⟩
  | 55 => ⟨S200704x16, .f32⟩
  | 56 => ⟨S_, .f32⟩
  | 57 => ⟨S200704, .f32⟩
  | 58 => ⟨S200704x1, .f32⟩
  | 59 => ⟨S_, .f32⟩
  | 60 => ⟨S200704x1, .f32⟩
  | 61 => ⟨S200704x1, .f32⟩
  | 62 => ⟨S200704x16, .f32⟩
  | 63 => ⟨S200704x16, .f32⟩
  | 64 => ⟨S200704x1, .f32⟩
  | 65 => ⟨S200704, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S15, .f32⟩
  | 74 => ⟨S_, .f32⟩
  | 75 => ⟨S15, .f32⟩
  | 76 => ⟨S15, .f32⟩
  | 77 => ⟨S1, .f32⟩
  | 78 => ⟨S_, .f32⟩
  | 79 => ⟨S15, .f32⟩
  | 80 => ⟨S15, .f32⟩
  | 81 => ⟨S15, .f32⟩
  | 82 => ⟨S15, .f32⟩
  | 83 => ⟨S1, .f32⟩
  | 84 => ⟨S15, .f32⟩
  | 85 => ⟨S15, .f32⟩
  | 86 => ⟨S15, .f32⟩
  | 87 => ⟨S1, .f32⟩
  | 88 => ⟨S16, .f32⟩
  | 89 => ⟨S200704x1, .f32⟩
  | 90 => ⟨S1x16, .f32⟩
  | 91 => ⟨S200704x16, .f32⟩
  | 92 => ⟨S200704x16, .f32⟩
  | 93 => ⟨S200704x16, .f32⟩
  | 94 => ⟨S200704x16, .f32⟩
  | 95 => ⟨S200704x16, .f32⟩
  | 96 => ⟨S_, .f32⟩
  | 97 => ⟨S200704x16, .f32⟩
  | 98 => ⟨S200704x16, .f32⟩
  | 99 => ⟨S200704x16, .f32⟩
  | 100 => ⟨S_, .f32⟩
  | 101 => ⟨S200704, .f32⟩
  | 102 => ⟨S200704x1, .f32⟩
  | 103 => ⟨S_, .f32⟩
  | 104 => ⟨S200704x1, .f32⟩
  | 105 => ⟨S200704x1, .f32⟩
  | 106 => ⟨S200704x16, .f32⟩
  | 107 => ⟨S200704x16, .f32⟩
  | 108 => ⟨S200704x16x1, .f32⟩
  | 109 => ⟨S200704x1x16, .f32⟩
  | 110 => ⟨S200704x16x16, .f32⟩
  | 111 => ⟨S200704x16x16, .f32⟩
  | 112 => ⟨S200704x16x16, .f32⟩
  | 113 => ⟨S_, .f32⟩
  | 114 => ⟨S1024x16x16, .f32⟩
  | 115 => ⟨S200704x1, .i32⟩
  | 116 => ⟨S1024x16x16, .f32⟩
  | 117 => ⟨S_, .f32⟩
  | 118 => ⟨S200704, .f32⟩
  | 119 => ⟨S200704x1, .f32⟩
  | 120 => ⟨S200704, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x224x224, .i32⟩

abbrev hbmTy0_1 (i : Nat) : BufTy := match i % 128 with
  | 0 => ⟨S15, .f32⟩
  | 1 => ⟨S_, .f32⟩
  | 2 => ⟨S15, .f32⟩
  | 3 => ⟨S15, .f32⟩
  | 4 => ⟨S1, .f32⟩
  | 5 => ⟨S_, .f32⟩
  | 6 => ⟨S15, .f32⟩
  | 7 => ⟨S15, .f32⟩
  | 8 => ⟨S15, .f32⟩
  | 9 => ⟨S15, .f32⟩
  | 10 => ⟨S1, .f32⟩
  | 11 => ⟨S15, .f32⟩
  | 12 => ⟨S15, .f32⟩
  | 13 => ⟨S15, .f32⟩
  | 14 => ⟨S1, .f32⟩
  | 15 => ⟨S16, .f32⟩
  | 16 => ⟨S200704x1, .f32⟩
  | 17 => ⟨S1x16, .f32⟩
  | 18 => ⟨S200704x16, .f32⟩
  | 19 => ⟨S200704x16, .f32⟩
  | 20 => ⟨S200704x16, .f32⟩
  | 21 => ⟨S200704x16, .f32⟩
  | 22 => ⟨S200704x16, .f32⟩
  | 23 => ⟨S_, .f32⟩
  | 24 => ⟨S200704x16, .f32⟩
  | 25 => ⟨S200704x16, .f32⟩
  | 26 => ⟨S200704x16, .f32⟩
  | 27 => ⟨S_, .f32⟩
  | 28 => ⟨S200704, .f32⟩
  | 29 => ⟨S200704x1, .f32⟩
  | 30 => ⟨S_, .f32⟩
  | 31 => ⟨S200704x1, .f32⟩
  | 32 => ⟨S200704x1, .f32⟩
  | 33 => ⟨S200704x16, .f32⟩
  | 34 => ⟨S200704x16, .f32⟩
  | 35 => ⟨S200704x1, .f32⟩
  | 36 => ⟨S200704, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S15, .f32⟩
  | 45 => ⟨S_, .f32⟩
  | 46 => ⟨S15, .f32⟩
  | 47 => ⟨S15, .f32⟩
  | 48 => ⟨S1, .f32⟩
  | 49 => ⟨S_, .f32⟩
  | 50 => ⟨S15, .f32⟩
  | 51 => ⟨S15, .f32⟩
  | 52 => ⟨S15, .f32⟩
  | 53 => ⟨S15, .f32⟩
  | 54 => ⟨S1, .f32⟩
  | 55 => ⟨S15, .f32⟩
  | 56 => ⟨S15, .f32⟩
  | 57 => ⟨S15, .f32⟩
  | 58 => ⟨S1, .f32⟩
  | 59 => ⟨S16, .f32⟩
  | 60 => ⟨S200704x1, .f32⟩
  | 61 => ⟨S1x16, .f32⟩
  | 62 => ⟨S200704x16, .f32⟩
  | 63 => ⟨S200704x16, .f32⟩
  | 64 => ⟨S200704x16, .f32⟩
  | 65 => ⟨S200704x16, .f32⟩
  | 66 => ⟨S200704x16, .f32⟩
  | 67 => ⟨S_, .f32⟩
  | 68 => ⟨S200704x16, .f32⟩
  | 69 => ⟨S200704x16, .f32⟩
  | 70 => ⟨S200704x16, .f32⟩
  | 71 => ⟨S_, .f32⟩
  | 72 => ⟨S200704, .f32⟩
  | 73 => ⟨S200704x1, .f32⟩
  | 74 => ⟨S_, .f32⟩
  | 75 => ⟨S200704x1, .f32⟩
  | 76 => ⟨S200704x1, .f32⟩
  | 77 => ⟨S200704x16, .f32⟩
  | 78 => ⟨S200704x16, .f32⟩
  | 79 => ⟨S200704x16x1, .f32⟩
  | 80 => ⟨S200704x1x16, .f32⟩
  | 81 => ⟨S200704x16x16, .f32⟩
  | 82 => ⟨S200704x16x16, .f32⟩
  | 83 => ⟨S200704x16x16, .f32⟩
  | 84 => ⟨S_, .f32⟩
  | 85 => ⟨S1024x16x16, .f32⟩
  | 86 => ⟨S200704x1, .i32⟩
  | 87 => ⟨S1024x16x16, .f32⟩
  | 88 => ⟨S_, .f32⟩
  | 89 => ⟨S200704, .f32⟩
  | 90 => ⟨S1024x1x16x16, .f32⟩
  | 91 => ⟨S1024x1x16x16, .f32⟩
  | 92 => ⟨S1024x2x16x16, .f32⟩
  | 93 => ⟨S_, .f32⟩
  | 94 => ⟨S1024, .f32⟩
  | 95 => ⟨S200704x1, .i32⟩
  | 96 => ⟨S1024, .f32⟩
  | 97 => ⟨S_, .f32⟩
  | 98 => ⟨S1024, .f32⟩
  | 99 => ⟨S1024, .f32⟩
  | 100 => ⟨S1024x1x1x1, .f32⟩
  | 101 => ⟨S1024x2x16x16, .f32⟩
  | 102 => ⟨S1024x2x16x16, .f32⟩
  | _ => ⟨S4x224x224, .i32⟩

abbrev hbmTy (i : Nat) : BufTy := match i / 128 with
  | 0 => hbmTy0_0 i
  | 1 => hbmTy0_1 i
  | _ => ⟨S4x224x224, .i32⟩

abbrev bufTy : (tb : Table) → Fin (tcTables nBuf tb) → BufTy
  | .hbm, ⟨i, _⟩ => hbmTy i
  | _, _ => ⟨S4x224x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_cst_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_v15 : Ref sig .tc := ⟨.hbm, 86, rfl⟩
abbrev main_call1_v16 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_10 : Ref sig .tc := ⟨.hbm, 100, rfl⟩
abbrev main_v46 : Ref sig .tc := ⟨.hbm, 101, rfl⟩
abbrev main_v47 : Ref sig .tc := ⟨.hbm, 102, rfl⟩
abbrev main_cst_11 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_12 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_13 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_14 : Ref sig .tc := ⟨.hbm, 121, rfl⟩
abbrev main_cst_15 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_cst : Ref sig .tc := ⟨.hbm, 126, rfl⟩
abbrev main_call2_v3 : Ref sig .tc := ⟨.hbm, 127, rfl⟩
abbrev main_call2_v4 : Ref sig .tc := ⟨.hbm, 128, rfl⟩
abbrev main_call2_cst_0 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_v12 : Ref sig .tc := ⟨.hbm, 138, rfl⟩
abbrev main_call2_v13 : Ref sig .tc := ⟨.hbm, 139, rfl⟩
abbrev main_call2_v14 : Ref sig .tc := ⟨.hbm, 140, rfl⟩
abbrev main_call2_v15 : Ref sig .tc := ⟨.hbm, 141, rfl⟩
abbrev main_call2_v16 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_cst_16 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_17 : Ref sig .tc := ⟨.hbm, 155, rfl⟩
abbrev main_v74 : Ref sig .tc := ⟨.hbm, 156, rfl⟩
abbrev main_v75 : Ref sig .tc := ⟨.hbm, 157, rfl⟩
abbrev main_cst_18 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_cst_19 : Ref sig .tc := ⟨.hbm, 165, rfl⟩
abbrev main_cst_20 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_cst : Ref sig .tc := ⟨.hbm, 170, rfl⟩
abbrev main_call3_v3 : Ref sig .tc := ⟨.hbm, 171, rfl⟩
abbrev main_call3_v4 : Ref sig .tc := ⟨.hbm, 172, rfl⟩
abbrev main_call3_cst_0 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_cst_1 : Ref sig .tc := ⟨.hbm, 177, rfl⟩
abbrev main_call3_v8 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_v12 : Ref sig .tc := ⟨.hbm, 182, rfl⟩
abbrev main_call3_v13 : Ref sig .tc := ⟨.hbm, 183, rfl⟩
abbrev main_call3_v14 : Ref sig .tc := ⟨.hbm, 184, rfl⟩
abbrev main_call3_v15 : Ref sig .tc := ⟨.hbm, 185, rfl⟩
abbrev main_call3_v16 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_cst_21 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_cst_22 : Ref sig .tc := ⟨.hbm, 199, rfl⟩
abbrev main_v93 : Ref sig .tc := ⟨.hbm, 200, rfl⟩
abbrev main_v94 : Ref sig .tc := ⟨.hbm, 201, rfl⟩
abbrev main_cst_23 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_cst_24 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_cst_25 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_cst_26 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_cst_27 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩

abbrev nD : Nat := 1
abbrev τ : Topo := Topo.v7x

variable {F : FTy → Type} [FloatOps F]
-- ==== Proof.Chunk.lean ====
module

public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelIdeal.Hist

open Idealize.ShloMosaic Idealize.ShloMosaic.TcCoe Idealize.ShloMosaic.Tactic
open Cert.KernelIdeal.Gen

variable {F : FTy → Type} [FloatOps F] [Named F]

/-- The sixteen window weights of each of the 7168 values of a row. -/
def weights (v : FVec F S1x7168 .f32) : FVec F S16x7168 .bf16 := k0_pay9 (k0_pay2 (F := F)) v

/-- A row of pixel coordinates scaled to run from -1 to 1. -/
def scaled (v : FVec F S1x7168 .f32) : FVec F S1x7168 .f32 :=
  subf (mulf v (broadcast S1x7168 (Named.named κ "two_over_side" 0x3C124925#32)))
    (broadcast S1x7168 (Scalar.ofBits .f32 0x3F800000#32))

/-- All 256 products of a weight of the first kind and a weight of the second, per value. -/
def products (a b : FVec F S16x7168 .bf16) : FVec F S256x7168 .bf16 :=
  shapeCast S256x7168
    (mulf (broadcastTo S16x16x7168 (shapeCast S16x1x7168 a shapeCasts_S16x7168_S16x1x7168) broadcasts_S16x1x7168_S16x16x7168)
      (broadcastTo S16x16x7168 (shapeCast S1x16x7168 b shapeCasts_S16x7168_S1x16x7168) broadcasts_S1x16x7168_S16x16x7168))
    shapeCasts_S16x16x7168_S256x7168

/-- The indicator of each of the 1024 segments along a row of segment numbers. -/
def indicator (s : IVec S1x7168 32) : FVec F S1024x7168 .bf16 :=
  truncf .bf16 (sitofp .f32 (extui 32 (cmpi .eq (broadcastTo S1024x7168 s broadcasts_S1x7168_S1024x7168)
    (broadcastTo S1024x7168 (iota .tc S1024x1 32 [0] iota_S1024x1_d0_w32) broadcasts_S1024x1_S1024x7168)) natLt_1_32)) bitsLt_bf16_f32

/-- What one quarter of a block adds: both sets of products summed per segment. -/
def quarter (s : IVec S1x7168 32) (y x g h : FVec F S1x7168 .f32) : FVec F S512x1024 .f32 :=
  matmul dot_S512x7168_S1024x7168_S512x1024_1_1_0_0_n_n none
    (concatenate S512x7168 0 [⟨S256x7168, products (weights (scaled y)) (weights (scaled x))⟩, ⟨S256x7168, products (weights g) (weights h)⟩]
      concatenates_S256x7168_S256x7168_S512x7168_d0)
    (indicator s) (constant S512x1024 .f32 0x00000000#32)

/-- The row inside a block's leading unit axes. -/
def row {σ : EltTy} (v : Vec F S1x1x28672 σ) : Vec F S1x28672 σ := shapeCast S1x28672 v shapeCasts_S1x1x28672_S1x28672

/-- What a whole block adds: its four quarters in order. -/
def added (s : Vec F S1x1x28672 .i32) (y x g h : Vec F S1x1x28672 .f32) : FVec F S512x1024 .f32 :=
  addf (addf (addf
    (quarter (extractStridedSlice S1x7168 ![0, 0] (row s) slices_S1x28672_o0_0_S1x7168)
      (extractStridedSlice S1x7168 ![0, 0] (row y) slices_S1x28672_o0_0_S1x7168)
      (extractStridedSlice S1x7168 ![0, 0] (row x) slices_S1x28672_o0_0_S1x7168)
      (extractStridedSlice S1x7168 ![0, 0] (row g) slices_S1x28672_o0_0_S1x7168)
      (extractStridedSlice S1x7168 ![0, 0] (row h) slices_S1x28672_o0_0_S1x7168))
    (quarter (extractStridedSlice S1x7168 ![0, 7168] (row s) slices_S1x28672_o0_7168_S1x7168)
      (extractStridedSlice S1x7168 ![0, 7168] (row y) slices_S1x28672_o0_7168_S1x7168)
      (extractStridedSlice S1x7168 ![0, 7168] (row x) slices_S1x28672_o0_7168_S1x7168)
      (extractStridedSlice S1x7168 ![0, 7168] (row g) slices_S1x28672_o0_7168_S1x7168)
      (extractStridedSlice S1x7168 ![0, 7168] (row h) slices_S1x28672_o0_7168_S1x7168)))
    (quarter (extractStridedSlice S1x7168 ![0, 14336] (row s) slices_S1x28672_o0_14336_S1x7168)
      (extractStridedSlice S1x7168 ![0, 14336] (row y) slices_S1x28672_o0_14336_S1x7168)
      (extractStridedSlice S1x7168 ![0, 14336] (row x) slices_S1x28672_o0_14336_S1x7168)
      (extractStridedSlice S1x7168 ![0, 14336] (row g) slices_S1x28672_o0_14336_S1x7168)
      (extractStridedSlice S1x7168 ![0, 14336] (row h) slices_S1x28672_o0_14336_S1x7168)))
    (quarter (extractStridedSlice S1x7168 ![0, 21504] (row s) slices_S1x28672_o0_21504_S1x7168)
      (extractStridedSlice S1x7168 ![0, 21504] (row y) slices_S1x28672_o0_21504_S1x7168)
      (extractStridedSlice S1x7168 ![0, 21504] (row x) slices_S1x28672_o0_21504_S1x7168)
      (extractStridedSlice S1x7168 ![0, 21504] (row g) slices_S1x28672_o0_21504_S1x7168)
      (extractStridedSlice S1x7168 ![0, 21504] (row h) slices_S1x28672_o0_21504_S1x7168))

/-- What the accumulator holds after a block, over what it held before. -/
def step (s : Vec F S1x1x28672 .i32) (y x g h : Vec F S1x1x28672 .f32) (acc : Vec F S512x1024 .f32) : Vec F S512x1024 .f32 :=
  shapeCast S512x1024 (addf acc (added s y x g h)) shapeCasts_S512x1024_S512x1024

section
variable (c : Dev nD) (i : grid0.Coords) (a1 : Memref sig .tc .vmem S1x1x28672 .i32) (h1 : a1.IsWhole) (a2 : Memref sig .tc .vmem S1x1x28672 .f32) (h2 : a2.IsWhole) (a3 : Memref sig .tc .vmem S1x1x28672 .f32) (h3 : a3.IsWhole) (a4 : Memref sig .tc .vmem S1x1x28672 .f32) (h4 : a4.IsWhole) (a5 : Memref sig .tc .vmem S1x1x28672 .f32) (h5 : a5.IsWhole) (a6 : Memref sig .tc .vmem S512x1024 .f32) (h6 : a6.IsWhole) (a7 : Memref sig .tc .vmem S512x1024 .f32) (h7 : a7.IsWhole)
  (x0 : Vec F S1x1x28672 .i32) (x1 x2 x3 x4 : Vec F S1x1x28672 .f32) (xs : Vec F S512x1024 .f32)

/-- A middle point leaves in the accumulator the step over what it held. -/
theorem middle_acc (hc0 : ¬cond0_0 i) (hc1 : ¬cond0_1 i) :
    sout0_B_0 c i a1 h1 a2 h2 a3 h3 a4 h4 a5 h5 a6 h6 a7 h7 hc0 hc1 x0 x1 x2 x3 x4 xs = step x0 x1 x2 x3 x4 xs := by
  frame_out
  rfl

/-- The last point leaves in the accumulator the step over what it held. -/
theorem last_acc (hc0 : ¬cond0_0 i) (hc1 : cond0_1 i) :
    sout0_C_0 c i a1 h1 a2 h2 a3 h3 a4 h4 a5 h5 a6 h6 a7 h7 hc0 hc1 x0 x1 x2 x3 x4 xs = step x0 x1 x2 x3 x4 xs := by
  frame_out
  rfl

/-- The last point writes the normalised accumulator. -/
theorem last_out (hc0 : ¬cond0_0 i) (hc1 : cond0_1 i) :
    out0_C_5 c i a1 h1 a2 h2 a3 h3 a4 h4 a5 h5 a6 h6 a7 h7 hc0 hc1 x0 x1 x2 x3 x4 xs = k0_pay1 (step x0 x1 x2 x3 x4 xs) := by
  frame_out
  rfl

/-- The first point leaves in the accumulator the step over zeros. -/
theorem first_acc (hc0 : cond0_0 i) (hc1 : ¬cond0_1 i) :
    sout0_A_0 c i a1 h1 a2 h2 a3 h3 a4 h4 a5 h5 a6 h6 a7 h7 hc0 hc1 x0 x1 x2 x3 x4 = step x0 x1 x2 x3 x4 (k0_pay3 (F := F)) := by
  frame_out
  rfl

end

end Cert.KernelIdeal.Hist
-- ==== Proof.Math.lean ====
module

public import Idealize.ShloMosaic.PureOps.Ideal
public import Idealize.ShloMosaic.PureOps.Ideal.Laws
public import Idealize.ShloMosaic.Lib.IdealHost
public import Idealize.ShloMosaic.Lib.Pointwise

@[expose] public section

noncomputable section

/-!
The histogram over the real numbers. A pixel carries a segment id and four values; each value spreads over sixteen
centres by a Gaussian bump divided by the sum of its bumps. The histogram of a segment and a pair of values is the sum,
over the segment's pixels, of the products of the two spreads. Both programs are read into these terms.
-/

namespace Cert.SoftHist

open Idealize.ShloMosaic

/-- The `a`-th of sixteen equally spaced centres in `[-1, 1]`. -/
def centre (a : ℕ) : ℝ := a * (2 / 15) - 1

/-- One over twice the squared width of the bumps: the reciprocal of the single-precision `0.005`. -/
def sharp : ℝ := 1073741824 / 5368709

/-- What keeps the sum of the bumps away from zero: the single-precision `1e-12`. -/
def eps : ℝ := 9223372 / 2 ^ 63

theorem sharp_pos : 0 < sharp := by norm_num [sharp]
theorem eps_pos : 0 < eps := by norm_num [eps]

/-- The Gaussian bump of the value `v` at the `a`-th centre; zero where `v` is infinite. -/
def bump (v : EReal) (a : ℕ) : ℝ :=
  if v = ⊤ ∨ v = ⊥ then 0 else Real.exp (-((v.toReal - centre a) * (v.toReal - centre a)) * sharp)

/-- The sum of the bumps of one value. -/
def bumps (v : EReal) : ℝ := ∑ x : Fin 16, bump v x.val

/-- The share of the value `v` that goes to the `a`-th centre. -/
def weight (v : EReal) (a : Fin 16) : ℝ := bump v a.val / (bumps v + eps)

theorem bump_nonneg (v : EReal) (a : ℕ) : 0 ≤ bump v a := by
  unfold bump; split
  · exact le_rfl
  · exact (Real.exp_pos _).le

theorem bump_coe (r : ℝ) (a : ℕ) :
    bump (r : EReal) a = Real.exp (-((r - centre a) * (r - centre a)) * sharp) := by
  unfold bump
  rw [if_neg (by simp)]
  rfl

theorem bumps_nonneg (v : EReal) : 0 ≤ bumps v := Finset.sum_nonneg fun _ _ => bump_nonneg v _

theorem bumps_coe_pos (r : ℝ) : 0 < bumps (r : EReal) :=
  Finset.sum_pos (fun a _ => by rw [bump_coe]; exact Real.exp_pos _) Finset.univ_nonempty

theorem weight_nonneg (v : EReal) (a : Fin 16) : 0 ≤ weight v a :=
  div_nonneg (bump_nonneg v _) (add_nonneg (bumps_nonneg v) eps_pos.le)

theorem weight_coe_pos (r : ℝ) (a : Fin 16) : 0 < weight (r : EReal) a := by
  refine div_pos ?_ (add_pos (bumps_coe_pos r) eps_pos)
  rw [bump_coe]; exact Real.exp_pos _

/-- The sixteen shares of one value add up to the sum of its bumps over that sum plus `eps`. -/
theorem sum_weight (v : EReal) : ∑ a : Fin 16, weight v a = bumps v / (bumps v + eps) := by
  unfold weight; rw [← Finset.sum_div]; rfl

/-- A sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The exponent as a product is minus the square scaled, infinite or not: the bump. -/
theorem exp_scaled (v : EReal) (a : ℕ) :
    Ideal.exp ((0 - (v - (centre a : EReal)) * (v - (centre a : EReal))) * (sharp : EReal)) = (bump v a : EReal) := by
  induction v using EReal.rec with
  | bot =>
    rw [EReal.bot_sub, EReal.bot_mul_bot, zero_sub, EReal.neg_top, EReal.bot_mul_coe_of_pos sharp_pos]
    simp [bump]
  | top =>
    rw [EReal.top_sub_coe, EReal.top_mul_top, zero_sub, EReal.neg_top, EReal.bot_mul_coe_of_pos sharp_pos]
    simp [bump]
  | coe r =>
    rw [bump_coe, ← EReal.coe_sub, ← EReal.coe_mul, zero_sub, ← EReal.coe_neg, ← EReal.coe_mul, Ideal.exp_coe]

/-- The exponent as a quotient by the single-precision `0.005`: the bump as well. -/
theorem exp_quotient (v : EReal) (a : ℕ) :
    Ideal.exp (Ideal.div (-((v - (centre a : EReal)) * (v - (centre a : EReal)))) ((1 / sharp : ℝ) : EReal))
      = (bump v a : EReal) := by
  rw [Ideal.div_coe (one_div_ne_zero sharp_pos.ne'), one_div_one_div, ← zero_sub, exp_scaled]

/-- A bump over the sum of the bumps plus `eps` is the weight. -/
theorem div_bumps (v : EReal) (a : Fin 16) :
    Ideal.div (bump v a.val : EReal) ((∑ x : Fin 16, (bump v x.val : EReal)) + (eps : EReal)) = (weight v a : EReal) := by
  rw [← coe_sum, ← EReal.coe_add,
    Ideal.div_coe (add_pos_of_nonneg_of_pos (Finset.sum_nonneg fun _ _ => bump_nonneg v _) eps_pos).ne', ← EReal.coe_mul]
  unfold weight bumps
  rw [mul_one_div]

/-! ### Pixels -/

/-- The images' segment ids, one image after the other, row by row. -/
def seg (x : (⟨3, ![4, 224, 224]⟩ : Shape).Idx → BitVec 32) (n : Fin 200704) : BitVec 32 :=
  x (ix3 ⟨n.val / 50176, by omega⟩ ⟨n.val / 224 % 224, by omega⟩ ⟨n.val % 224, by omega⟩)

/-- A pixel's coordinate, scaled from `[0, 224]` to `[-1, 1]`. -/
def place (x : (⟨2, ![3, 200704]⟩ : Shape).Idx → BitVec 32) (c : Fin 3) (n : Fin 200704) : ℝ :=
  ((x (ix2 c n)).toInt : ℝ) * (1 / 112) - 1

/-- A pixel's gradient feature. -/
def feature (x : (⟨4, ![4, 2, 224, 224]⟩ : Shape).Idx → EReal) (c : Fin 2) (n : Fin 200704) : EReal :=
  x (ix4 ⟨n.val / 50176, by omega⟩ c ⟨n.val / 224 % 224, by omega⟩ ⟨n.val % 224, by omega⟩)

/-- What one pixel adds to the histogram of segment `s`. -/
def term (g : Fin 200704 → BitVec 32) (u w : Fin 200704 → EReal) (s : ℕ) (a b : Fin 16) (n : Fin 200704) : ℝ :=
  if g n = BitVec.ofNat 32 s then weight (u n) a * weight (w n) b else 0

/-- The histogram of segment `s` for the values `u` and `w`, at the centres `a` and `b`. -/
def hist (g : Fin 200704 → BitVec 32) (u w : Fin 200704 → EReal) (s : ℕ) (a b : Fin 16) : ℝ :=
  ∑ n, term g u w s a b n

/-- The whole of the histogram of segment `s`. -/
def mass (g : Fin 200704 → BitVec 32) (u w : Fin 200704 → EReal) (s : ℕ) : ℝ :=
  ∑ a : Fin 16, ∑ b : Fin 16, hist g u w s a b

variable (g : Fin 200704 → BitVec 32) (u w : Fin 200704 → EReal) (s : ℕ)

theorem term_nonneg (a b : Fin 16) (n : Fin 200704) : 0 ≤ term g u w s a b n := by
  unfold term; split
  · exact mul_nonneg (weight_nonneg _ _) (weight_nonneg _ _)
  · exact le_rfl

theorem hist_nonneg (a b : Fin 16) : 0 ≤ hist g u w s a b :=
  Finset.sum_nonneg fun n _ => term_nonneg g u w s a b n

/-- The mass, pixel by pixel. -/
theorem mass_eq : mass g u w s = ∑ n, if g n = BitVec.ofNat 32 s then
    (∑ a : Fin 16, weight (u n) a) * (∑ b : Fin 16, weight (w n) b) else 0 := by
  unfold mass hist
  rw [Finset.sum_congr rfl fun a _ => Finset.sum_comm, Finset.sum_comm]
  refine Finset.sum_congr rfl fun n _ => ?_
  unfold term
  split
  · rw [Finset.sum_mul_sum]
  · simp

/-- A segment with a pixel has a positive mass when the values are finite. -/
theorem mass_pos (u w : Fin 200704 → ℝ) (n : Fin 200704) (h : g n = BitVec.ofNat 32 s) :
    0 < mass g (fun n => (u n : EReal)) (fun n => (w n : EReal)) s := by
  refine Finset.sum_pos' (fun a _ => Finset.sum_nonneg fun b _ => hist_nonneg _ _ _ _ _ _) ⟨0, Finset.mem_univ _, ?_⟩
  refine Finset.sum_pos' (fun b _ => hist_nonneg _ _ _ _ _ _) ⟨0, Finset.mem_univ _, ?_⟩
  refine Finset.sum_pos' (fun n _ => term_nonneg _ _ _ _ _ _ _) ⟨n, Finset.mem_univ _, ?_⟩
  unfold term
  rw [if_pos h]
  exact mul_pos (weight_coe_pos _ _) (weight_coe_pos _ _)

/-! ### The two histograms of the arguments -/

section
variable (x0 : (⟨3, ![4, 224, 224]⟩ : Shape).Idx → BitVec 32) (x1 : (⟨2, ![3, 200704]⟩ : Shape).Idx → BitVec 32)
  (x2 : (⟨4, ![4, 2, 224, 224]⟩ : Shape).Idx → EReal)

/-- The first value of pair `p`: the vertical coordinate, or the first feature. -/
def first (p : Fin 2) (n : Fin 200704) : EReal := if p = 0 then (place x1 1 n : EReal) else feature x2 0 n

/-- The second value of pair `p`: the horizontal coordinate, or the second feature. -/
def second (p : Fin 2) (n : Fin 200704) : EReal := if p = 0 then (place x1 2 n : EReal) else feature x2 1 n

/-- The histogram of segment `s` for the pair `p`. -/
def histogram (s : ℕ) (p : Fin 2) (a b : Fin 16) : ℝ := hist (seg x0) (first x1 x2 p) (second x1 x2 p) s a b

/-- The mass of the coordinates' histogram of segment `s`. -/
def total (s : ℕ) : ℝ := mass (seg x0) (first x1 x2 0) (second x1 x2 0) s

/-- A segment with a pixel has a positive mass. -/
theorem total_pos (s : ℕ) (n : Fin 200704) (h : seg x0 n = BitVec.ofNat 32 s) : 0 < total x0 x1 x2 s :=
  mass_pos (seg x0) s (place x1 1) (place x1 2) n h

/-- What both programs answer at a segment with a pixel: four times the histogram over the mass. -/
def answer (s : ℕ) (p : Fin 2) (a b : Fin 16) : ℝ := 4 * histogram x0 x1 x2 s p a b / total x0 x1 x2 s

end

/-- Scaling by four over the mass: the quotient by a quarter of the mass. -/
theorem scaled_eq (h m : ℝ) (hm : m ≠ 0) :
    (h : EReal) * Ideal.div ((4 : ℝ) : EReal) (m : EReal) = ((4 * h / m : ℝ) : EReal) := by
  rw [Ideal.div_coe hm, ← EReal.coe_mul, ← EReal.coe_mul]
  congr 1; ring

/-- Dividing by a quarter of the mass. -/
theorem quotient_eq (h m : ℝ) (hm : m ≠ 0) :
    Ideal.div (h : EReal) ((m : EReal) * ((1 / 4 : ℝ) : EReal)) = ((4 * h / m : ℝ) : EReal) := by
  rw [← EReal.coe_mul, Ideal.div_coe (mul_ne_zero hm (by norm_num)), ← EReal.coe_mul]
  congr 1; field_simp

/-! ### The constants of the programs -/

theorem eps_word : Ideal.ofBits .f32 0x2B8CBCCC#32 = (eps : EReal) := by
  simp [Ideal.ofBits, Ideal.ieee, -EReal.coe_mul, eps]; norm_num
theorem width_word : Ideal.ofBits .f32 0x3BA3D70A#32 = ((1 / sharp : ℝ) : EReal) := by
  simp [Ideal.ofBits, Ideal.ieee, -EReal.coe_mul, sharp]; norm_num
theorem four_word : Ideal.ofBits .f32 0x40800000#32 = ((4 : ℝ) : EReal) := by
  simp [Ideal.ofBits, Ideal.ieee, -EReal.coe_mul]; norm_num
theorem quarter_word : Ideal.ofBits .f32 0x3E800000#32 = ((1 / 4 : ℝ) : EReal) := by
  simp [Ideal.ofBits, Ideal.ieee, -EReal.coe_mul]; norm_num

end Cert.SoftHist
-- ==== Proof.ChunkAt.lean ====
module

public import proofs.«01_k».proof.Proof.Chunk
public import proofs.«01_k».proof.Proof.Math
public import Idealize.ShloMosaic.Lib.Pointwise
public import Idealize.ShloMosaic.Lib.ValueIdx
public import Idealize.ShloMosaic.PureOps.IdealRules

@[expose] public section

set_option maxRecDepth 16384

noncomputable section

/-!
One grid point of the kernel, read at an index over the extended reals: what it adds to row `r` of segment `v` is a sum
over the chunk's pixels of products of two weights.
-/

namespace Cert.KernelIdeal.Hist

open Idealize.ShloMosaic Idealize.ShloMosaic.TcCoe Idealize.ShloMosaic.Tactic
open Cert.KernelIdeal.Gen Cert.SoftHist

theorem named_step : Named.named (F := Ideal) κ (φ := .f32) "step" 0x3E088889#32 = ((2 / 15 : ℝ) : EReal) :=
  IdealRules.named_const.ideal_named_scalar _ _ _ _ rfl
theorem named_side : Named.named (F := Ideal) κ (φ := .f32) "two_over_side" 0x3C124925#32 = ((1 / 112 : ℝ) : EReal) :=
  IdealRules.named_const.ideal_named_scalar _ _ _ _ rfl
theorem named_sharp : Named.named (F := Ideal) κ (φ := .f32) "inv2s2" 0x43480000#32 = (sharp : EReal) :=
  IdealRules.named_const.ideal_named_scalar _ _ _ _ rfl

/-- A small number as a signed word converts to itself. -/
theorem sitofp_small (a : ℕ) (h : a < 2 ^ 31) :
    FloatOps.sitofp (F := Ideal) .f32 (BitVec.ofNat 32 a) = ((a : ℝ) : EReal) := by
  show (((BitVec.ofNat 32 a).toInt : ℝ) : EReal) = _
  have e : (BitVec.ofNat 32 a).toInt = (a : ℤ) := by
    rw [BitVec.toInt_eq_toNat_of_lt (by rw [BitVec.toNat_ofNat]; omega), BitVec.toNat_ofNat, Nat.mod_eq_of_lt (by omega)]
  rw [e, Int.cast_natCast]

/-- The converted comparison of two words is one where they are equal and zero elsewhere. -/
theorem sitofp_eq (a b : BitVec 32) :
    FloatOps.sitofp (F := Ideal) .f32 (BitVec.setWidth 32 (IntOp.cmpi .eq a b)) = ((if a = b then 1 else 0 : ℝ) : EReal) := by
  show (((BitVec.setWidth 32 (IntOp.cmpi .eq a b)).toInt : ℝ) : EReal) = _
  by_cases h : a = b
  · simp [IntOp.cmpi, h]
  · simp [IntOp.cmpi, beq_false_of_ne h]
    simp [h]

/-- The grid's centre, as the kernel computes it. -/
theorem centre_eq (a : Fin 16) :
    FloatOps.sitofp (F := Ideal) .f32 (BitVec.ofNat 32 a.val) * ((2 / 15 : ℝ) : EReal) - 1 = (centre a.val : EReal) := by
  rw [sitofp_small _ (by omega), ← EReal.coe_mul, ← EReal.coe_one, ← EReal.coe_sub]; rfl

theorem weights_apply (v : FVec Ideal S1x7168 .f32) (a : Fin 16) (k : Fin 7168) :
    weights v (ix2 a k) = (weight (v (ix2 0 k)) a : EReal) := by
  pointwise [weights, k0_pay9, k0_pay2]
  simp only [named_step, named_sharp, centre_eq, eps_word, exp_scaled]
  exact div_bumps _ _

theorem scaled_apply (v : FVec Ideal S1x7168 .f32) (k : Fin 7168) :
    scaled v (ix2 0 k) = v (ix2 0 k) * ((1 / 112 : ℝ) : EReal) - 1 := by
  pointwise [scaled]
  simp only [named_side]

theorem products_apply (a b : FVec Ideal S16x7168 .bf16) (r : Fin 256) (k : Fin 7168) :
    products a b (ix2 r k) = a (ix2 ⟨r.val / 16, by omega⟩ k) * b (ix2 ⟨r.val % 16, by omega⟩ k) := by
  pointwise [products]

/-- What a pixel with the values `y`, `x`, `g`, `h` adds to row `r` of its segment: the first half of the rows hold the
    pair of the coordinates, the second half the pair of the features. -/
def share (r : Fin 512) (y x g h : EReal) : ℝ :=
  if r.val < 256 then weight y ⟨r.val / 16 % 16, by omega⟩ * weight x ⟨r.val % 16, by omega⟩
  else weight g ⟨r.val / 16 % 16, by omega⟩ * weight h ⟨r.val % 16, by omega⟩

theorem quarter_apply (s : IVec S1x7168 32) (y x g h : FVec Ideal S1x7168 .f32) (r : Fin 512) (v : Fin 1024) :
    quarter s y x g h (ix2 r v) = ((∑ k : Fin 7168, if s (ix2 0 k) = BitVec.ofNat 32 v.val then
      share r (y (ix2 0 k) * ((1 / 112 : ℝ) : EReal) - 1) (x (ix2 0 k) * ((1 / 112 : ℝ) : EReal) - 1) (g (ix2 0 k)) (h (ix2 0 k))
      else 0 : ℝ) : EReal) := by
  pointwise [quarter, indicator]
  rw [coe_sum]
  refine Finset.sum_congr rfl fun k _ => ?_
  rw [sitofp_eq]
  unfold share
  split
  · rename_i hr
    rw [products_apply, weights_apply, weights_apply, scaled_apply, scaled_apply, ← EReal.coe_mul, ← EReal.coe_mul]
    congr 1
    have e : r.val / 16 % 16 = r.val / 16 := by omega
    simp [e, hr]
  · rename_i hr
    rw [products_apply, weights_apply, weights_apply, ← EReal.coe_mul, ← EReal.coe_mul]
    congr 1
    have e : r.val / 16 % 16 = (r.val - 256) / 16 := by omega
    have e' : r.val % 16 = (r.val - 256) % 16 := by omega
    simp [e, e', hr]

/-- What one pixel of a chunk adds to row `r` of segment `v`. -/
def lane (s : Vec Ideal S1x1x28672 .i32) (y x g h : Vec Ideal S1x1x28672 .f32) (r : Fin 512) (v : Fin 1024) (j : Fin 28672) : ℝ :=
  if s (ix3 0 0 j) = BitVec.ofNat 32 v.val then
    share r (y (ix3 0 0 j) * ((1 / 112 : ℝ) : EReal) - 1) (x (ix3 0 0 j) * ((1 / 112 : ℝ) : EReal) - 1) (g (ix3 0 0 j)) (h (ix3 0 0 j))
  else 0

/-- What a chunk adds: its four quarters run through all its pixels. -/
theorem added_apply (s : Vec Ideal S1x1x28672 .i32) (y x g h : Vec Ideal S1x1x28672 .f32) (r : Fin 512) (v : Fin 1024) :
    added s y x g h (ix2 r v) = ((∑ j : Fin 28672, lane s y x g h r v j : ℝ) : EReal) := by
  have e : (∑ j : Fin 28672, lane s y x g h r v j : ℝ) = ∑ j : Fin (7168 + 7168 + 7168 + 7168), lane s y x g h r v j := rfl
  pointwise [added]
  rw [e, Fin.sum_univ_add, Fin.sum_univ_add, Fin.sum_univ_add, EReal.coe_add, EReal.coe_add, EReal.coe_add]
  rw [quarter_apply, quarter_apply, quarter_apply, quarter_apply]
  refine congrArg₂ _ (congrArg₂ _ (congrArg₂ _ ?_ ?_) ?_) ?_ <;>
    refine congrArg _ (Finset.sum_congr rfl fun k _ => ?_) <;>
    pointwise [row] <;> rfl

theorem step_apply (s : Vec Ideal S1x1x28672 .i32) (y x g h : Vec Ideal S1x1x28672 .f32) (acc : FVec Ideal S512x1024 .f32)
   (r : Fin 512) (v : Fin 1024) :
    step s y x g h acc (ix2 r v) = acc (ix2 r v) + ((∑ j : Fin 28672, lane s y x g h r v j : ℝ) : EReal) := by
  pointwise [step]
  rw [added_apply]

theorem zeros_apply (r : Fin 512) (v : Fin 1024) : k0_pay3 (F := Ideal) (ix2 r v) = 0 := by
  pointwise [k0_pay3]

/-- The last point's result over a finite accumulator: each row times four over the sum of the first half of the rows. -/
theorem pay1_apply (acc : Vec Ideal S512x1024 .f32) (A : Fin 512 → ℝ) (v : Fin 1024)
    (hA : ∀ r, acc (ix2 r v) = (A r : EReal)) (hM : (∑ x : Fin 256, A ⟨x.val, by omega⟩) ≠ 0) (r : Fin 512) :
    k0_pay1 acc (ix2 r v) = ((4 * A r / ∑ x : Fin 256, A ⟨x.val, by omega⟩ : ℝ) : EReal) := by
  pointwise [k0_pay1]
  simp only [hA, four_word]
  rw [← coe_sum, scaled_eq _ _ hM]

end Cert.KernelIdeal.Hist
-- ==== Proof.Pixels.lean ====
module

public import proofs.«01_k».proof.Proof.ChunkAt
public import Idealize.ShloMosaic.Lib.Pipeline.ValueKit

@[expose] public section

set_option maxRecDepth 16384

noncomputable section

/-!
The kernel's blocks are runs of 28672 pixels in image order.
-/

namespace Cert.KernelIdeal.Hist

open Idealize.ShloMosaic Idealize.ShloMosaic.TcCoe Idealize.ShloMosaic.Tactic
open Cert.KernelIdeal.Gen Cert.SoftHist

variable (m : (ℓ : Loc nD τ sig) → Buf (Elt Ideal) ℓ) (c : Dev nD)

/-- Each input window's block index at point `t` is `t` on the leading axis. -/
theorem idx_in : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] := by decide +kernel

/-- The segment ids, cut into seven rows. -/
theorem entry_seg (t : Fin 7) (j : Fin 28672) (hn : t.val * 28672 + j.val < 200704) :
    V m c main_v1 (ix3 t 0 j) = seg (m ((c : Thread nD τ).loc main_arg0)) ⟨t.val * 28672 + j.val, hn⟩ := by
  unfold seg
  show StableHlo.after (List.flatten [hostOps0]) _ _ _ = _
  simp only [hostOps0, List.flatten_cons, List.flatten_nil, List.append_nil]
  after_results_simp
  pointwise
  blk_ext

theorem block_seg (t : Fin cfg0.N) (j : Fin 28672) :
    iblk m c 0 t (ix3 0 0 j) = V m c main_v1 (ix3 (Fin.cast N_0 t) 0 j) := by
  blk_ext [iblk, idx_in t]
  rfl

/-- The vertical coordinates, cut into seven rows. -/
theorem entry_y (t : Fin 7) (j : Fin 28672) (hn : t.val * 28672 + j.val < 200704) :
    V m c main_v5 (ix3 t 0 j) = FloatOps.sitofp (F := Ideal) .f32 (m ((c : Thread nD τ).loc main_arg1) (ix2 1 (⟨t.val * 28672 + j.val, hn⟩ : Fin 200704))) := by
  show StableHlo.after (List.flatten [hostOps0]) _ _ _ = _
  simp only [hostOps0, List.flatten_cons, List.flatten_nil, List.append_nil]
  after_results_simp
  pointwise

theorem block_y (t : Fin cfg0.N) (j : Fin 28672) :
    iblk m c 1 t (ix3 0 0 j) = V m c main_v5 (ix3 (Fin.cast N_0 t) 0 j) := by
  blk_ext [iblk, idx_in t]
  rfl

/-- The horizontal coordinates, cut into seven rows. -/
theorem entry_x (t : Fin 7) (j : Fin 28672) (hn : t.val * 28672 + j.val < 200704) :
    V m c main_v9 (ix3 t 0 j) = FloatOps.sitofp (F := Ideal) .f32 (m ((c : Thread nD τ).loc main_arg1) (ix2 2 (⟨t.val * 28672 + j.val, hn⟩ : Fin 200704))) := by
  show StableHlo.after (List.flatten [hostOps0]) _ _ _ = _
  simp only [hostOps0, List.flatten_cons, List.flatten_nil, List.append_nil]
  after_results_simp
  pointwise

theorem block_x (t : Fin cfg0.N) (j : Fin 28672) :
    iblk m c 2 t (ix3 0 0 j) = V m c main_v9 (ix3 (Fin.cast N_0 t) 0 j) := by
  blk_ext [iblk, idx_in t]
  rfl

/-- The first feature, cut into seven rows. -/
theorem entry_g (t : Fin 7) (j : Fin 28672) (hn : t.val * 28672 + j.val < 200704) :
    V m c main_v13 (ix3 t 0 j) = feature (m ((c : Thread nD τ).loc main_arg2)) 0 ⟨t.val * 28672 + j.val, hn⟩ := by
  unfold feature
  show StableHlo.after (List.flatten [hostOps0]) _ _ _ = _
  simp only [hostOps0, List.flatten_cons, List.flatten_nil, List.append_nil]
  after_results_simp
  pointwise
  blk_ext

theorem block_g (t : Fin cfg0.N) (j : Fin 28672) :
    iblk m c 3 t (ix3 0 0 j) = V m c main_v13 (ix3 (Fin.cast N_0 t) 0 j) := by
  blk_ext [iblk, idx_in t]
  rfl

/-- The second feature, cut into seven rows. -/
theorem entry_h (t : Fin 7) (j : Fin 28672) (hn : t.val * 28672 + j.val < 200704) :
    V m c main_v17 (ix3 t 0 j) = feature (m ((c : Thread nD τ).loc main_arg2)) 1 ⟨t.val * 28672 + j.val, hn⟩ := by
  unfold feature
  show StableHlo.after (List.flatten [hostOps0]) _ _ _ = _
  simp only [hostOps0, List.flatten_cons, List.flatten_nil, List.append_nil]
  after_results_simp
  pointwise
  blk_ext

theorem block_h (t : Fin cfg0.N) (j : Fin 28672) :
    iblk m c 4 t (ix3 0 0 j) = V m c main_v17 (ix3 (Fin.cast N_0 t) 0 j) := by
  blk_ext [iblk, idx_in t]
  rfl

/-- A coordinate scaled as the kernel scales it. -/
theorem scaled_place (x : (⟨2, ![3, 200704]⟩ : Shape).Idx → BitVec 32) (k : Fin 3) (n : Fin 200704) :
    FloatOps.sitofp (F := Ideal) .f32 (x (ix2 k n)) * ((1 / 112 : ℝ) : EReal) - 1 = (place x k n : EReal) := by
  show (((x (ix2 k n)).toInt : ℝ) : EReal) * _ - 1 = _
  rw [← EReal.coe_mul, ← EReal.coe_one, ← EReal.coe_sub]
  rfl

/-- What pixel `n` adds to row `r` of segment `v`. -/
def pixel (r : Fin 512) (v : Fin 1024) (n : Fin 200704) : ℝ :=
  if seg (m ((c : Thread nD τ).loc main_arg0)) n = BitVec.ofNat 32 v.val then
    share r (place (m ((c : Thread nD τ).loc main_arg1)) 1 n : EReal) (place (m ((c : Thread nD τ).loc main_arg1)) 2 n : EReal)
      (feature (m ((c : Thread nD τ).loc main_arg2)) 0 n) (feature (m ((c : Thread nD τ).loc main_arg2)) 1 n)
  else 0

/-- Lane `j` of the blocks at point `t` is pixel `28672 t + j`. -/
theorem lane_eq (t : Fin cfg0.N) (r : Fin 512) (v : Fin 1024) (j : Fin 28672) (hn : t.val * 28672 + j.val < 200704) :
    lane (iblk m c 0 t) (iblk m c 1 t) (iblk m c 2 t) (iblk m c 3 t) (iblk m c 4 t) r v j
      = pixel m c r v ⟨t.val * 28672 + j.val, hn⟩ := by
  have e0 := (block_seg m c t j).trans (entry_seg m c _ j hn)
  have e1 := (block_y m c t j).trans (entry_y m c _ j hn)
  have e2 := (block_x m c t j).trans (entry_x m c _ j hn)
  have e3 := (block_g m c t j).trans (entry_g m c _ j hn)
  have e4 := (block_h m c t j).trans (entry_h m c _ j hn)
  unfold lane pixel
  rw [← scaled_place, ← scaled_place, e0, e1, e2, e3, e4]

/-- What the `p`-th chunk adds to row `r` of segment `v`. -/
def chunk (r : Fin 512) (v : Fin 1024) (p : ℕ) : ℝ :=
  ∑ j : Fin 28672, if h : p * 28672 + j.val < 200704 then pixel m c r v ⟨p * 28672 + j.val, h⟩ else 0

theorem chunk_eq (t : Fin cfg0.N) (r : Fin 512) (v : Fin 1024) :
    ∑ j : Fin 28672, lane (iblk m c 0 t) (iblk m c 1 t) (iblk m c 2 t) (iblk m c 3 t) (iblk m c 4 t) r v j
      = chunk m c r v t.val := by
  refine Finset.sum_congr rfl fun j _ => ?_
  have ht : t.val < 7 := lt_of_lt_of_eq t.isLt N_0
  have hn : t.val * 28672 + j.val < 200704 := by have := j.isLt; omega
  rw [dif_pos hn, lane_eq m c t r v j hn]

attribute [local irreducible] outsAt0

/-- The accumulator after the first point. -/
theorem acc_first (t : Fin cfg0.N) (h0 : t.val % 7 = 0) (h1 : ¬ t.val % 7 = 6) : (outsAt0 m c t.val t.isLt).2
    = step (iblk m c 0 t) (iblk m c 1 t) (iblk m c 2 t) (iblk m c 3 t) (iblk m c 4 t) (k0_pay3 (F := Ideal)) := by
  rw [outsAt0_A m c t h0 h1]
  dsimp only
  rw [first_acc]

/-- The accumulator after a later point. -/
theorem acc_next (t : Fin cfg0.N) (h0 : ¬ t.val % 7 = 0) : (outsAt0 m c t.val t.isLt).2
    = step (iblk m c 0 t) (iblk m c 1 t) (iblk m c 2 t) (iblk m c 3 t) (iblk m c 4 t)
        (outsAt0 m c (t.val - 1) (Nat.lt_of_le_of_lt (Nat.sub_le _ _) t.isLt)).2 := by
  by_cases h1 : t.val % 7 = 6
  · rw [outsAt0_C m c t h0 h1]
    dsimp only
    rw [last_acc]
  · rw [outsAt0_B m c t h0 h1]
    dsimp only
    rw [middle_acc]

/-- What the last point writes is the normalised accumulator. -/
theorem out_last (t : Fin cfg0.N) (h0 : ¬ t.val % 7 = 0) (h1 : t.val % 7 = 6) :
    (outsAt0 m c t.val t.isLt).1 = k0_pay1 (outsAt0 m c t.val t.isLt).2 := by
  rw [acc_next m c t h0, outsAt0_C m c t h0 h1]
  dsimp only
  rw [last_out]

/-- The accumulator after point `n` holds the sum of the chunks up to it. -/
theorem acc_apply (n : ℕ) (h : n < cfg0.N) (r : Fin 512) (v : Fin 1024) :
    (outsAt0 m c n h).2 (ix2 r v) = ((∑ p ∈ Finset.range (n + 1), chunk m c r v p : ℝ) : EReal) := by
  induction n with
  | zero =>
    have e := acc_first m c ⟨0, h⟩ rfl (by dsimp only; omega)
    dsimp only at e
    rw [e, step_apply, zeros_apply, zero_add, chunk_eq, Finset.sum_range_one]
  | succ n ih =>
    have hN : n + 1 < 7 := lt_of_lt_of_eq h N_0
    have e := acc_next m c ⟨n + 1, h⟩ (by dsimp only; omega)
    dsimp only at e
    simp only [Nat.add_sub_cancel] at e
    rw [e, step_apply, ih, chunk_eq, ← EReal.coe_add, ← Finset.sum_range_succ (fun p => chunk m c r v p)]

/-- The seven chunks run through all pixels. -/
theorem sum_chunks (r : Fin 512) (v : Fin 1024) :
    ∑ p ∈ Finset.range 7, chunk m c r v p = ∑ n, pixel m c r v n := by
  rw [Finset.sum_range]
  refine Fin.sum_mul_add_congr fun p j hl => ?_
  rw [dif_pos hl]

/-- After the last point the accumulator holds the sum over all pixels. -/
theorem acc_last (h : 6 < cfg0.N) (r : Fin 512) (v : Fin 1024) :
    (outsAt0 m c 6 h).2 (ix2 r v) = ((∑ n, pixel m c r v n : ℝ) : EReal) := by
  rw [acc_apply, ← sum_chunks]

end Cert.KernelIdeal.Hist
-- ==== Proof.Result.lean ====
module

public import proofs.«01_k».proof.Proof.Pixels

@[expose] public section

set_option maxRecDepth 16384

noncomputable section

/-!
The kernel's result: what the last point writes, carried through the host operations after the region, is at every
segment with a pixel four times its histogram over its mass.
-/

namespace Cert.KernelIdeal.Hist

open Idealize.ShloMosaic Idealize.ShloMosaic.TcCoe Idealize.ShloMosaic.Tactic Idealize.SL.Sem
open Cert.KernelIdeal.Gen Cert.SoftHist

variable (m : (ℓ : Loc nD τ sig) → Buf (Elt Ideal) ℓ) (ρ : Dev nD → PrngReg) (c : Dev nD)

theorem six_lt : 6 < cfg0.N := lt_of_lt_of_eq (by omega) N_0.symm

/-- The output array after the run. -/
def written : Vec Ideal S512x1024 .f32 := k0_pay1 (outsAt0 m c 6 six_lt).2

/-- The output window's only block starts at the array's origin. -/
theorem idx_out : ∀ t : Fin cfg0.N, win0_5.index t (0 : Fin 2) = 0 ∧ win0_5.index t (1 : Fin 2) = 0 :=
  (by decide +kernel : ∀ t : Fin grid0.N, _)

attribute [local irreducible] outsAt0

/-- The one write-back carries the last point's result. -/
theorem flushed_eq (t : Fin cfg0.N) (hf : (cfg0.win 5).flush t = true) :
    (dats m 0 c).flushed 5 t = ((cfg0.win 5).blk t).view.read (Elt Ideal) (written m c) := by
  have hm : t.val % 7 = 6 := (flush0_5 t).mp hf
  have hN : t.val < 7 := lt_of_lt_of_eq t.isLt N_0
  obtain rfl : t = ⟨6, six_lt⟩ := Fin.ext (by dsimp only; omega)
  obtain ⟨e0, e1⟩ := idx_out ⟨6, six_lt⟩
  show (cfg0.win 5).cut (grid0.coords ⟨6, six_lt⟩) ((dats m 0 c).after 5 ⟨6, six_lt⟩) = _
  rw [after0_5, out_last m c ⟨6, six_lt⟩ (by dsimp only; omega) rfl]
  funext y
  have hl : ((cfg0.win 5).blk ⟨6, six_lt⟩).view.emb y = (cfg0.win 5).xinj (grid0.coords ⟨6, six_lt⟩) y := by
    funext a; apply Fin.ext
    match a with
    | ⟨0, _⟩ => show win0_5.index ⟨6, six_lt⟩ (0 : Fin 2) * 512 + 1 * (y 0).val = (y 0).val; rw [e0]; omega
    | ⟨1, _⟩ => show win0_5.index ⟨6, six_lt⟩ (1 : Fin 2) * 1024 + 1 * (y 1).val = (y 1).val; rw [e1]; omega
  show written m c ((cfg0.win 5).xinj (grid0.coords ⟨6, six_lt⟩) y) = written m c (((cfg0.win 5).blk ⟨6, six_lt⟩).view.emb y)
  rw [hl]

/-- That block is the whole array. -/
theorem covered (i : S512x1024.Idx) :
    ∃ t : Fin cfg0.N, (cfg0.win 5).flush t = true ∧ i ∈ ((cfg0.win 5).blk t).view.set := by
  obtain ⟨e0, e1⟩ := idx_out ⟨6, six_lt⟩
  have hi0 : (i 0).val < 512 := (i 0).isLt
  have hi1 : (i 1).val < 1024 := (i 1).isLt
  refine ⟨⟨6, six_lt⟩, (flush0_5 _).mpr rfl, ?_⟩
  show i ∈ ((View.whole main_v18).slice (win0_5.rect ⟨6, six_lt⟩)).set
  rw [View.set_slice_whole, Rect.mem_set_unit]
  intro a
  match a with
  | ⟨0, _⟩ => show win0_5.index ⟨6, six_lt⟩ (0 : Fin 2) * 512 ≤ (i 0).val ∧ (i 0).val < win0_5.index ⟨6, six_lt⟩ (0 : Fin 2) * 512 + 512; omega
  | ⟨1, _⟩ => show win0_5.index ⟨6, six_lt⟩ (1 : Fin 2) * 1024 ≤ (i 1).val ∧ (i 1).val < win0_5.index ⟨6, six_lt⟩ (1 : Fin 2) * 1024 + 1024; omega

/-- The output array after the run is what the last point wrote. -/
theorem array_eq : (dats m 0 c).arrAt 5 cfg0.N = written m c :=
  (dats m 0 c).arrAt_eq_of_cover 5 _ (fun t hf => flushed_eq m c t hf) covered

/-- The program's result: the output array with its rows split and the segments moved to the front. -/
def result : Vec Ideal S1024x2x16x16 .f32 :=
  transpose S1024x2x16x16 [3, 0, 1, 2] (shapeCast S2x16x16x1024 (written m c) shapeCasts_S512x1024_S2x16x16x1024)
    transposes_S2x16x16x1024_S1024x2x16x16_3_0_1_2

theorem tail_eq : Pipeline.afterTail₀ cfgs (dats m) 0 (V0 m) [hostOps1] c main_v20 = result m c := by
  unfold Pipeline.afterTail₀
  simp only [hostOps1, List.flatten_cons, List.flatten_nil, List.append_nil]
  after_results_simp
  have e := Pipeline.withArrays_arr spec0 launch0.win.arr_inj c (V0 m c) (fun w => (dats m 0 c).arrAt w cfg0.N) 5
  have e' := e.trans (array_eq m c)
  unfold result
  rw [← e']
  rfl

/-- Every run ends with the result in the result buffer and the arguments as launched. -/
theorem run_result : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result at an index is the written array at the row of its pair and centres. -/
theorem result_apply (s : Fin 1024) (p : Fin 2) (a b : Fin 16) :
    result m c (ix4 s p a b) = written m c (ix2 ⟨p.val * 256 + a.val * 16 + b.val, by omega⟩ s) := by
  pointwise [result]

/-- Row `256 p + 16 a + b` collects the products of pair `p` at the centres `a` and `b`. -/
theorem pixel_eq (s : Fin 1024) (p : Fin 2) (a b : Fin 16) (n : Fin 200704) (r : Fin 512)
    (hr : r.val = p.val * 256 + a.val * 16 + b.val) :
    pixel m c r s n = term (seg (m ((c : Thread nD τ).loc main_arg0)))
      (first (m ((c : Thread nD τ).loc main_arg1)) (m ((c : Thread nD τ).loc main_arg2)) p)
      (second (m ((c : Thread nD τ).loc main_arg1)) (m ((c : Thread nD τ).loc main_arg2)) p) s.val a b n := by
  have ha : (⟨r.val / 16 % 16, by omega⟩ : Fin 16) = a := Fin.ext (by dsimp only; omega)
  have hb : (⟨r.val % 16, by omega⟩ : Fin 16) = b := Fin.ext (by dsimp only; omega)
  unfold pixel term share first second
  rw [ha, hb]
  by_cases hp : p = 0
  · subst hp
    rw [if_pos (show r.val < 256 by simp at hr; omega), if_pos rfl, if_pos rfl]
  · have : p.val = 1 := by omega
    rw [if_neg (show ¬ r.val < 256 by omega), if_neg hp, if_neg hp]

/-- A sum over 256 rows is the sum over the pairs of centres. -/
theorem rows_split (f : Fin 256 → ℝ) : ∑ x, f x = ∑ a : Fin 16, ∑ b : Fin 16, f ⟨a.val * 16 + b.val, by omega⟩ :=
  (Fin.sum_mul_add_fin 16 16 f (by norm_num)).symm

/-- The first half of the rows, summed, is the mass. -/
theorem rows_eq (s : Fin 1024) : ∑ x : Fin 256, ∑ n, pixel m c ⟨x.val, by omega⟩ s n
    = total (m ((c : Thread nD τ).loc main_arg0)) (m ((c : Thread nD τ).loc main_arg1)) (m ((c : Thread nD τ).loc main_arg2)) s.val := by
  refine (rows_split fun x => ∑ n, pixel m c ⟨x.val, by omega⟩ s n).trans ?_
  unfold total mass
  refine Finset.sum_congr rfl fun a _ => Finset.sum_congr rfl fun b _ => ?_
  unfold hist
  exact Finset.sum_congr rfl fun n _ => pixel_eq m c s 0 a b n _ (by simp)

/-- At a segment with a pixel the kernel answers four times the histogram over the mass. -/
theorem result_answer (s : Fin 1024) (p : Fin 2) (a b : Fin 16) (n : Fin 200704)
    (hn : seg (m ((c : Thread nD τ).loc main_arg0)) n = BitVec.ofNat 32 s.val) :
    result m c (ix4 s p a b) = (answer (m ((c : Thread nD τ).loc main_arg0)) (m ((c : Thread nD τ).loc main_arg1))
      (m ((c : Thread nD τ).loc main_arg2)) s.val p a b : EReal) := by
  have hM := (total_pos (m ((c : Thread nD τ).loc main_arg0)) (m ((c : Thread nD τ).loc main_arg1))
    (m ((c : Thread nD τ).loc main_arg2)) s.val n hn).ne'
  have e : ∑ n, pixel m c ⟨p.val * 256 + a.val * 16 + b.val, by omega⟩ s n = histogram (m ((c : Thread nD τ).loc main_arg0))
      (m ((c : Thread nD τ).loc main_arg1)) (m ((c : Thread nD τ).loc main_arg2)) s.val p a b := by
    unfold histogram hist
    exact Finset.sum_congr rfl fun n _ => pixel_eq m c s p a b n _ rfl
  rw [result_apply, written,
    pay1_apply _ (fun r => ∑ n, pixel m c r s n) s (fun r => acc_last m c six_lt r s) (by rw [rows_eq]; exact hM), rows_eq]
  unfold answer
  rw [← e]

end Cert.KernelIdeal.Hist
-- ==== Proof.Windows.lean ====
module

public import proofs.«01_k».proof.Proof.Gen.ReferenceIdeal.Read
public import proofs.«01_k».proof.Proof.Math
public import Idealize.ShloMosaic.Lib.Pointwise
public import Idealize.ShloMosaic.Lib.Routing.OpsPair

@[expose] public section

set_option maxRecDepth 16384

noncomputable section

/-!
The reference's parts, each as one function of the arrays it reads, and what each holds at an index: the values of the
pixels, their spreads over the centres, the products of two spreads, the segment sums and the stacked histograms.
-/

namespace Cert.SoftHist

open Idealize.ShloMosaic Idealize.ShloMosaic.TcCoe Idealize.ShloMosaic.Tactic
open Cert.ReferenceIdeal Cert.ReferenceIdeal.Gen Cert.ReferenceIdeal.Read

/-! ### The words of the reference's constants -/

theorem one_word : Ideal.ofBits .f32 0x3F800000#32 = ((1 : ℝ) : EReal) := by
  simp [Ideal.ofBits, Ideal.ieee, -EReal.coe_mul, -EReal.coe_one]; norm_num
theorem minus_word : Ideal.ofBits .f32 0xBF800000#32 = ((-1 : ℝ) : EReal) := by
  simp [Ideal.ofBits, Ideal.ieee, -EReal.coe_mul, -EReal.coe_one]; norm_num
theorem fifteen_word : Ideal.ofBits .f32 0x41700000#32 = ((15 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem side_word : Ideal.ofBits .f32 0x43600000#32 = ((224 : ℝ) : EReal) := by
  simp [Ideal.ofBits, Ideal.ieee, -EReal.coe_mul]; norm_num

/-! ### The values -/

/-- A number below sixteen converts to itself. -/
theorem sitofp_index (a : Fin 16) : FloatOps.sitofp (F := Ideal) .f32 (BitVec.ofNat 32 a.val) = ((a.val : ℝ) : EReal) := by
  show (((BitVec.ofNat 32 a.val).toInt : ℝ) : EReal) = _
  have e : (BitVec.ofNat 32 a.val).toInt = (a.val : ℤ) := by
    rw [BitVec.toInt_eq_toNat_of_lt (by rw [BitVec.toNat_ofNat]; omega), BitVec.toNat_ofNat, Nat.mod_eq_of_lt (by omega)]
  rw [e, Int.cast_natCast]

/-- The interpolation between the ends `-1` and `1`, and the appended last end, are the sixteen centres. -/
theorem points_apply (a : Fin 16) : val_main_v16 (F := Ideal) (ix1 a) = (centre a.val : EReal) := by
  pointwise [val_main_v16, val_main_call0_v15, val_main_call0_v16, val_main_call0_v14, val_main_call0_v13, val_main_call0_v12,
    val_main_call0_v11, val_main_call0_v10, val_main_call0_v9, val_main_call0_v8, val_main_call0_v7, val_main_call0_v6,
    val_main_call0_v5, val_main_call0_v4, val_main_call0_v3, val_main_call0_v2, val_main_call0_v1, val_main_call0_v0,
    val_main_cst_2, val_main_cst_3, val_main_call0_cst, val_main_call0_cst_0, val_main_call0_cst_1]
  have e0 : id (constant (F := Ideal) S_ .f32 0xBF800000#32) ix0 = ((-1 : ℝ) : EReal) := minus_word
  have e1 : id (constant (F := Ideal) S_ .f32 0x3F800000#32) ix0 = ((1 : ℝ) : EReal) := one_word
  rw [e0, e1, fifteen_word, sitofp_index, Ideal.div_coe (by norm_num : (15 : ℝ) ≠ 0), ← EReal.coe_mul, ← EReal.coe_one,
    ← EReal.coe_sub, ← EReal.coe_mul, ← EReal.coe_mul, ← EReal.coe_add]
  unfold centre
  split
  · congr 1; ring
  · have : a.val = 15 := by omega
    rw [this]; norm_num

/-- Twice a coordinate over the side, less one. -/
theorem scaled_coordinate (x : BitVec 32) :
    Ideal.div (Ideal.ofBits .f32 0x40000000#32 * FloatOps.sitofp (F := Ideal) .f32 x) (Ideal.ofBits .f32 0x43600000#32) - 1
      = ((((x.toInt : ℝ) * (1 / 112) - 1 : ℝ)) : EReal) := by
  show Ideal.div (Ideal.ofBits .f32 0x40000000#32 * ((x.toInt : ℝ) : EReal)) _ - 1 = _
  rw [two_word, side_word, ← EReal.coe_mul, Ideal.div_coe (by norm_num : (224 : ℝ) ≠ 0), ← EReal.coe_mul, ← EReal.coe_one, ← EReal.coe_sub]
  congr 1; ring

section
variable (x0 : IVec S4x224x224 32) (x1 : IVec S3x200704 32) (x2 : FVec Ideal S4x2x224x224 .f32)

theorem value_y (n : Fin 200704) : val_main_v15 (F := Ideal) x1 x2 (ix1 n) = (place x1 1 n : EReal) := by
  pointwise [val_main_v15, val_main_v14, val_main_v13, val_main_v10, val_main_v9, val_main_v8, val_main_v7, val_main_v6,
    val_main_v5, val_main_v4, val_main_v3, val_main_v2, val_main_v1, val_main_cst, val_main_cst_0, val_main_cst_1]
  exact scaled_coordinate _

theorem value_x (n : Fin 200704) : val_main_v34 (F := Ideal) x1 x2 (ix1 n) = (place x1 2 n : EReal) := by
  pointwise [val_main_v34, val_main_v33, val_main_v13, val_main_v10, val_main_v9, val_main_v8, val_main_v7, val_main_v6,
    val_main_v5, val_main_v4, val_main_v3, val_main_v2, val_main_v1, val_main_cst, val_main_cst_0, val_main_cst_1]
  exact scaled_coordinate _

theorem value_g (n : Fin 200704) : val_main_v62 (F := Ideal) x1 x2 (ix1 n) = feature x2 0 n := by
  pointwise [val_main_v62, val_main_v61, val_main_v13, val_main_v12, val_main_v11]
  rfl

theorem value_h (n : Fin 200704) : val_main_v81 (F := Ideal) x1 x2 (ix1 n) = feature x2 1 n := by
  pointwise [val_main_v81, val_main_v80, val_main_v13, val_main_v12, val_main_v11]
  rfl

theorem ids_apply (n : Fin 200704) : val_main_v0 (F := Ideal) x0 (ix1 n) = seg x0 n := by
  pointwise [val_main_v0]
  rfl

end

/-! ### The spreads and their products -/

/-- The spread of each value over the centres. -/
def soft (v : FVec Ideal S200704 .f32) : FVec Ideal S200704x16 .f32 :=
  let d := subf (broadcastInDim S200704x16 ![0, 1] bcast_S200704x1_S200704x16_0_1 (broadcastInDim S200704x1 ![0] bcast_S200704_S200704x1_0 v))
    (broadcastInDim S200704x16 ![0, 1] bcast_S1x16_S200704x16_0_1 (broadcastInDim S1x16 ![1] bcast_S16_S1x16_1 (val_main_v16 (F := Ideal))))
  let w := Host.exp (Host.divf (Host.negf (mulf d d)) (broadcastInDim S200704x16 ![] bcast_S_S200704x16 (constant S_ .f32 0x3BA3D70A#32)))
  Host.divf w (broadcastInDim S200704x16 ![0, 1] bcast_S200704x1_S200704x16_0_1 (addf
    (broadcastInDim S200704x1 ![0] bcast_S200704_S200704x1_0 (Host.reduceAdd w (constant S_ .f32 0x00000000#32) reducesTo_S200704x16_S200704_d1 h_S_))
    (broadcastInDim S200704x1 ![] bcast_S_S200704x1 (constant S_ .f32 0x2B8CBCCC#32))))

/-- The spread at a centre is the weight of the value there. -/
theorem soft_apply (v : FVec Ideal S200704 .f32) (n : Fin 200704) (a : Fin 16) : soft v (ix2 n a) = (weight (v (ix1 n)) a : EReal) := by
  pointwise [soft]
  simp only [points_apply, width_word, eps_word, exp_quotient]
  exact div_bumps _ _

/-- The products of two spreads. -/
def joint (p q : FVec Ideal S200704x16 .f32) : FVec Ideal S200704x16x16 .f32 :=
  mulf (broadcastInDim S200704x16x16 ![0, 1, 2] bcast_S200704x16x1_S200704x16x16_0_1_2 (broadcastInDim S200704x16x1 ![0, 1] bcast_S200704x16_S200704x16x1_0_1 p))
    (broadcastInDim S200704x16x16 ![0, 1, 2] bcast_S200704x1x16_S200704x16x16_0_1_2 (broadcastInDim S200704x1x16 ![0, 2] bcast_S200704x16_S200704x1x16_0_2 q))

theorem joint_apply (p q : FVec Ideal S200704x16 .f32) (n : Fin 200704) (a b : Fin 16) :
    joint p q (ix3 n a b) = p (ix2 n a) * q (ix2 n b) := by
  pointwise [joint]

/-! ### The segment sums -/

/-- A word is the small number `s` exactly when it is so read as a signed one. -/
theorem toInt_eq_iff (x : BitVec 32) (s : Fin 1024) : x.toInt = (s.val : ℤ) ↔ x = BitVec.ofNat 32 s.val := by
  have e : (BitVec.ofNat 32 s.val).toInt = (s.val : ℤ) := by
    rw [BitVec.toInt_eq_toNat_of_lt (by rw [BitVec.toNat_ofNat]; omega), BitVec.toNat_ofNat, Nat.mod_eq_of_lt (by omega)]
  rw [← e]
  exact BitVec.toInt_inj

/-- The ids as the column that the segment sums read. -/
def column (g : IVec S200704 32) : IVec S200704x1 32 := broadcastInDim S200704x1 ![0] bcast_S200704_S200704x1_0 g

theorem column_apply (g : IVec S200704 32) (n : Fin 200704) : column g (ix2 n 0) = g (ix1 n) := by
  pointwise [column]

/-- The products of pixel `n` go to the segment of its id, each to its own pair of centres. -/
theorem lands_joint (g : IVec S200704 32) (n : Fin 200704) (a b : Fin 16) (s : Fin 1024) (a' b' : Fin 16) :
    scatter_S1024x16x16_S200704x1_S200704x16x16_12_0_0_1.resultIdx? (ix3 n a b) (column g) = some (ix3 s a' b')
      ↔ g (ix1 n) = BitVec.ofNat 32 s.val ∧ a = a' ∧ b = b' := by
  rw [Routing.resultIdx?_eq_some, ← toInt_eq_iff, ← column_apply g n]
  have h0 : scatter_S1024x16x16_S200704x1_S200704x16x16_12_0_0_1.start (ix3 n a b) (column g) 0 = (column g (ix2 n 0)).toInt := by
    unfold ScatterDims.start
    rw [dif_pos (by decide)]
    congr 2
    funext d
    match d with
    | ⟨0, _⟩ => rfl
    | ⟨1, _⟩ => rfl
  have h1 : scatter_S1024x16x16_S200704x1_S200704x16x16_12_0_0_1.start (ix3 n a b) (column g) 1 = 0 := rfl
  have h2 : scatter_S1024x16x16_S200704x1_S200704x16x16_12_0_0_1.start (ix3 n a b) (column g) 2 = 0 := rfl
  have w0 : scatter_S1024x16x16_S200704x1_S200704x16x16_12_0_0_1.window (ix3 n a b) 0 = 0 := rfl
  have w1 : scatter_S1024x16x16_S200704x1_S200704x16x16_12_0_0_1.window (ix3 n a b) 1 = a.val := rfl
  have w2 : scatter_S1024x16x16_S200704x1_S200704x16x16_12_0_0_1.window (ix3 n a b) 2 = b.val := rfl
  constructor
  · intro h
    have e0 := h 0
    have e1 := h 1
    have e2 := h 2
    rw [h0, w0] at e0
    rw [h1, w1] at e1
    rw [h2, w2] at e2
    change _ = (s.val : ℤ) at e0
    change _ = (a'.val : ℤ) at e1
    change _ = (b'.val : ℤ) at e2
    exact ⟨by simpa using e0, Fin.ext (by omega), Fin.ext (by omega)⟩
  · rintro ⟨h, rfl, rfl⟩ d
    match d with
    | ⟨0, _⟩ => show ScatterDims.start _ _ _ 0 + (ScatterDims.window _ _ 0 : ℤ) = (s.val : ℤ); rw [h0, w0, h]; rfl
    | ⟨1, _⟩ => show ScatterDims.start _ _ _ 1 + (ScatterDims.window _ _ 1 : ℤ) = (a.val : ℤ); rw [h1, w1]; omega
    | ⟨2, _⟩ => show ScatterDims.start _ _ _ 2 + (ScatterDims.window _ _ 2 : ℤ) = (b.val : ℤ); rw [h2, w2]; omega

/-- The entry of pixel `n` goes to the segment of its id. -/
theorem lands_one (g : IVec S200704 32) (n : Fin 200704) (s : Fin 1024) :
    scatter_S1024_S200704x1_S200704_n_0_0_1.resultIdx? (ix1 n) (column g) = some (ix1 s) ↔ g (ix1 n) = BitVec.ofNat 32 s.val := by
  rw [Routing.resultIdx?_eq_some, ← toInt_eq_iff, ← column_apply g n]
  have h0 : scatter_S1024_S200704x1_S200704_n_0_0_1.start (ix1 n) (column g) 0 = (column g (ix2 n 0)).toInt := by
    unfold ScatterDims.start
    rw [dif_pos (by decide)]
    congr 2
    funext d
    match d with
    | ⟨0, _⟩ => rfl
    | ⟨1, _⟩ => rfl
  have w0 : scatter_S1024_S200704x1_S200704_n_0_0_1.window (ix1 n) 0 = 0 := rfl
  constructor
  · intro h
    have e0 := h 0
    rw [h0, w0] at e0
    change _ = (s.val : ℤ) at e0
    simpa using e0
  · intro h d
    match d with
    | ⟨0, _⟩ => show ScatterDims.start _ _ _ 0 + (ScatterDims.window _ _ 0 : ℤ) = (s.val : ℤ); rw [h0, w0, h]; rfl

/-- The segment sums of products. -/
def histSum (g : IVec S200704 32) (u : FVec Ideal S200704x16x16 .f32) : FVec Ideal S1024x16x16 .f32 :=
  Host.scatterAdd scatter_S1024x16x16_S200704x1_S200704x16x16_12_0_0_1
    (broadcastInDim S1024x16x16 ![] bcast_S_S1024x16x16 (constant S_ .f32 0x00000000#32)) (column g) u

theorem histSum_apply (g : IVec S200704 32) (u : FVec Ideal S200704x16x16 .f32) (s : Fin 1024) (a b : Fin 16) :
    histSum g u (ix3 s a b) = ∑ n : Fin 200704, if g (ix1 n) = BitVec.ofNat 32 s.val then u (ix3 n a b) else 0 := by
  have z : broadcastInDim S1024x16x16 ![] bcast_S_S1024x16x16 (constant (F := Ideal) S_ .f32 0x00000000#32) (ix3 s a b) = (0 : EReal) := by
    pointwise
  show Ideal.hostScatterAdd _ _ _ _ _ = _
  unfold Ideal.hostScatterAdd
  rw [z, zero_add, ← Finset.sum_filter]
  refine Finset.sum_nbij' (fun j => j 0) (fun n => ix3 n a b) ?_ ?_ ?_ ?_ ?_
  · intro j hj
    rw [eq_ix3 j] at hj
    exact Finset.mem_filter.2 ⟨Finset.mem_univ _, ((lands_joint g _ _ _ s a b).1 (Finset.mem_filter.1 hj).2).1⟩
  · intro n hn
    exact Finset.mem_filter.2 ⟨Finset.mem_univ _, (lands_joint g n a b s a b).2 ⟨(Finset.mem_filter.1 hn).2, rfl, rfl⟩⟩
  · intro j hj
    rw [eq_ix3 j] at hj
    obtain ⟨_, h1, h2⟩ := (lands_joint g _ _ _ s a b).1 (Finset.mem_filter.1 hj).2
    conv_rhs => rw [eq_ix3 j]
    rw [← h1, ← h2]
  · intro n _; rfl
  · intro j hj
    rw [eq_ix3 j] at hj
    obtain ⟨_, h1, h2⟩ := (lands_joint g _ _ _ s a b).1 (Finset.mem_filter.1 hj).2
    conv_lhs => rw [eq_ix3 j]
    rw [← h1, ← h2]

/-- The segment sums of one number a pixel. -/
def massSum (g : IVec S200704 32) (u : FVec Ideal S200704 .f32) : FVec Ideal S1024 .f32 :=
  Host.scatterAdd scatter_S1024_S200704x1_S200704_n_0_0_1
    (broadcastInDim S1024 ![] bcast_S_S1024 (constant S_ .f32 0x00000000#32)) (column g) u

theorem massSum_apply (g : IVec S200704 32) (u : FVec Ideal S200704 .f32) (s : Fin 1024) :
    massSum g u (ix1 s) = ∑ n : Fin 200704, if g (ix1 n) = BitVec.ofNat 32 s.val then u (ix1 n) else 0 := by
  have z : broadcastInDim S1024 ![] bcast_S_S1024 (constant (F := Ideal) S_ .f32 0x00000000#32) (ix1 s) = (0 : EReal) := by
    pointwise
  show Ideal.hostScatterAdd _ _ _ _ _ = _
  unfold Ideal.hostScatterAdd
  rw [z, zero_add, ← Finset.sum_filter]
  refine Finset.sum_nbij' (fun j => j 0) (fun n => ix1 n) ?_ ?_ ?_ ?_ ?_
  · intro j hj
    rw [eq_ix1 j] at hj
    exact Finset.mem_filter.2 ⟨Finset.mem_univ _, (lands_one g _ s).1 (Finset.mem_filter.1 hj).2⟩
  · intro n hn
    exact Finset.mem_filter.2 ⟨Finset.mem_univ _, (lands_one g n s).2 (Finset.mem_filter.1 hn).2⟩
  · intro j _; exact (eq_ix1 j).symm
  · intro n _; rfl
  · intro j _; exact congrArg u (eq_ix1 j)

/-- The mass of each pixel: the sum of its products. -/
def pixelMass (u : FVec Ideal S200704x16x16 .f32) : FVec Ideal S200704 .f32 :=
  Host.reduceAdd u (constant S_ .f32 0x00000000#32) reducesTo_S200704x16x16_S200704_d1_2 h_S_

theorem pixelMass_apply (u : FVec Ideal S200704x16x16 .f32) (n : Fin 200704) :
    pixelMass u (ix1 n) = ∑ a : Fin 16, ∑ b : Fin 16, u (ix3 n a b) := by
  have z : constant (F := Ideal) S_ .f32 0x00000000#32 (Shape.Idx.first h_S_) = (0 : EReal) := by
    pointwise
  have hd : ∀ j : S200704x16x16.Idx, reducesTo_S200704x16x16_S200704_d1_2.drop j = ix1 n ↔ j 0 = n := by
    intro j
    have e : reducesTo_S200704x16x16_S200704_d1_2.drop j = ix1 (j 0) := by
      funext d
      match d with
      | ⟨0, _⟩ => rfl
    rw [e]
    constructor
    · intro h; exact congrFun h 0
    · rintro rfl; rfl
  show Ideal.hostReduceAdd _ _ _ _ = _
  unfold Ideal.hostReduceAdd
  rw [z, zero_add, ← Fintype.sum_prod_type' (f := fun a b => u (ix3 n a b))]
  refine Finset.sum_nbij' (fun j => ((j 1 : Fin 16), (j 2 : Fin 16))) (fun p => ix3 n p.1 p.2) ?_ ?_ ?_ ?_ ?_
  · intro j _; exact Finset.mem_univ _
  · intro p _; exact Finset.mem_filter.2 ⟨Finset.mem_univ _, (hd _).2 rfl⟩
  · intro j hj
    have e := (hd j).1 (Finset.mem_filter.1 hj).2
    conv_rhs => rw [eq_ix3 j]
    rw [← e]
  · intro p _; rfl
  · intro j hj
    have e := (hd j).1 (Finset.mem_filter.1 hj).2
    conv_lhs => rw [eq_ix3 j]
    rw [← e]

/-- The two histograms, one after the other. -/
def stack (h k : FVec Ideal S1024x16x16 .f32) : FVec Ideal S1024x2x16x16 .f32 :=
  concatenate S1024x2x16x16 1 [⟨S1024x1x16x16, broadcastInDim S1024x1x16x16 ![0, 2, 3] bcast_S1024x16x16_S1024x1x16x16_0_2_3 h⟩,
    ⟨S1024x1x16x16, broadcastInDim S1024x1x16x16 ![0, 2, 3] bcast_S1024x16x16_S1024x1x16x16_0_2_3 k⟩]
    concatenates_S1024x1x16x16_S1024x1x16x16_S1024x2x16x16_d1

theorem stack_apply (h k : FVec Ideal S1024x16x16 .f32) (s : Fin 1024) (p : Fin 2) (a b : Fin 16) :
    stack h k (ix4 s p a b) = if p = 0 then h (ix3 s a b) else k (ix3 s a b) := by
  pointwise [stack]
  have : (p.val < 1) ↔ p = 0 := by constructor <;> intro h <;> omega
  simp [this]

/-- The histograms over a quarter of the sizes. -/
def shared (h : FVec Ideal S1024x2x16x16 .f32) (z : FVec Ideal S1024 .f32) : FVec Ideal S1024x2x16x16 .f32 :=
  Host.divf h (broadcastInDim S1024x2x16x16 ![0, 1, 2, 3] bcast_S1024x1x1x1_S1024x2x16x16_0_1_2_3
    (broadcastInDim S1024x1x1x1 ![0] bcast_S1024_S1024x1x1x1_0
      (mulf z (broadcastInDim S1024 ![] bcast_S_S1024 (constant S_ .f32 0x3E800000#32)))))

theorem shared_apply (h : FVec Ideal S1024x2x16x16 .f32) (z : FVec Ideal S1024 .f32) (s : Fin 1024) (p : Fin 2) (a b : Fin 16) :
    shared h z (ix4 s p a b) = Ideal.div (h (ix4 s p a b)) (z (ix1 s) * ((1 / 4 : ℝ) : EReal)) := by
  pointwise [shared]
  rw [quarter_word]

/-! ### The histograms of the arguments -/

section
variable (x0 : IVec S4x224x224 32) (x1 : IVec S3x200704 32) (x2 : FVec Ideal S4x2x224x224 .f32)

/-- The products of the coordinates' spreads. -/
def jointYX : FVec Ideal S200704x16x16 .f32 := joint (soft (val_main_v15 (F := Ideal) x1 x2)) (soft (val_main_v34 (F := Ideal) x1 x2))
/-- The products of the features' spreads. -/
def jointGH : FVec Ideal S200704x16x16 .f32 := joint (soft (val_main_v62 (F := Ideal) x1 x2)) (soft (val_main_v81 (F := Ideal) x1 x2))
/-- The stacked histograms. -/
def hists : FVec Ideal S1024x2x16x16 .f32 :=
  stack (histSum (val_main_v0 (F := Ideal) x0) (jointYX x1 x2)) (histSum (val_main_v0 (F := Ideal) x0) (jointGH x1 x2))

/-- The segment sum of two spreads' products is the histogram of the two values. -/
theorem histSum_joint (v w : FVec Ideal S200704 .f32) (s : Fin 1024) (a b : Fin 16) :
    histSum (val_main_v0 (F := Ideal) x0) (joint (soft v) (soft w)) (ix3 s a b)
      = (hist (seg x0) (fun n => v (ix1 n)) (fun n => w (ix1 n)) s.val a b : EReal) := by
  rw [histSum_apply]
  unfold hist
  rw [coe_sum]
  refine Finset.sum_congr rfl fun n _ => ?_
  rw [ids_apply, joint_apply, soft_apply, soft_apply, ← EReal.coe_mul]
  unfold term
  split <;> rfl

/-- The stacked histograms at an index. -/
theorem hists_apply (s : Fin 1024) (p : Fin 2) (a b : Fin 16) :
    hists x0 x1 x2 (ix4 s p a b) = (histogram x0 x1 x2 s.val p a b : EReal) := by
  unfold hists jointYX jointGH histogram
  rw [stack_apply, histSum_joint, histSum_joint]
  unfold first second
  by_cases hp : p = 0
  · simp only [if_pos hp, value_y, value_x]
  · simp only [if_neg hp, value_g, value_h]

/-- The segment sum of the coordinates' masses. -/
theorem massSum_joint (s : Fin 1024) :
    massSum (val_main_v0 (F := Ideal) x0) (pixelMass (jointYX x1 x2)) (ix1 s) = (total x0 x1 x2 s.val : EReal) := by
  rw [massSum_apply]
  unfold total
  rw [mass_eq, coe_sum]
  refine Finset.sum_congr rfl fun n _ => ?_
  rw [ids_apply, pixelMass_apply]
  unfold first second
  rw [if_pos rfl, if_pos rfl]
  split
  · rw [Finset.sum_mul_sum, coe_sum]
    refine Finset.sum_congr rfl fun a _ => ?_
    rw [coe_sum]
    refine Finset.sum_congr rfl fun b _ => ?_
    unfold jointYX
    rw [joint_apply, soft_apply, soft_apply, value_y, value_x, EReal.coe_mul]
  · rfl

/-- The reference's result is the stacked histograms over a quarter of the masses. -/
theorem result_eq : val_main_v118 (F := Ideal) x0 x1 x2
    = shared (hists x0 x1 x2) (massSum (val_main_v0 (F := Ideal) x0) (pixelMass (jointYX x1 x2))) := rfl

/-- At a segment with a pixel the reference answers four times the histogram over the mass. -/
theorem reference_answer (s : Fin 1024) (p : Fin 2) (a b : Fin 16) (n : Fin 200704) (hn : seg x0 n = BitVec.ofNat 32 s.val) :
    val_main_v118 (F := Ideal) x0 x1 x2 (ix4 s p a b) = (answer x0 x1 x2 s.val p a b : EReal) := by
  rw [result_eq, shared_apply, hists_apply, massSum_joint, quotient_eq _ _ (total_pos x0 x1 x2 s.val n hn).ne']
  rfl

end

end Cert.SoftHist
-- ==== Proof.Mask.lean ====
module

public import proofs.«01_k».proof.On_nonempty
public import proofs.«01_k».proof.Proof.Math
public import Idealize.ShloMosaic.Lib.Pointwise

@[expose] public section

set_option maxRecDepth 16384

noncomputable section

/-! The mask: the segments that some pixel carries. -/

namespace Cert.SoftHist

open Idealize.ShloMosaic Idealize.ShloMosaic.TcCoe Idealize.ShloMosaic.Tactic
open Cert.On_nonempty

variable [Facts]

/-- A disjunction of one-bit words that is one has a member that is one. -/
theorem fold_ori {ι : Type} (f : ι → BitVec 1) (S : Finset ι) (h : Finset.fold IntOp.ori 0#1 f S = 1#1) : ∃ x ∈ S, f x = 1#1 := by
  classical
  induction S using Finset.induction_on with
  | empty => rw [Finset.fold_empty] at h; exact absurd h (by decide)
  | insert a S ha ih =>
    rw [Finset.fold_insert ha] at h
    by_cases e : f a = 1#1
    · exact ⟨a, Finset.mem_insert_self _ _, e⟩
    · have e0 : f a = 0#1 := by
        have : ∀ w : BitVec 1, w ≠ 1#1 → w = 0#1 := by decide
        exact this _ e
      rw [e0] at h
      obtain ⟨x, hx, e⟩ := ih (by simpa [IntOp.ori] using h)
      exact ⟨x, Finset.mem_insert_of_mem hx, e⟩

/-- Where the mask is one, some pixel carries the segment's id. -/
theorem nonempty_apply (x0 : IVec S4x224x224 32) (x1 : IVec S3x200704 32) (x2 : FVec Ideal S4x2x224x224 .f32)
    (s : Fin 1024) (p : Fin 2) (a b : Fin 16) (h : Cert.On_nonempty.fn (F := Ideal) x0 x1 x2 (ix4 s p a b) = 1#1) :
    ∃ n : Fin 200704, seg x0 n = BitVec.ofNat 32 s.val := by
  unfold Cert.On_nonempty.fn at h
  dsimp only at h
  pointwise at h
  obtain ⟨n, _, e⟩ := fold_ori _ _ h
  refine ⟨n, ?_⟩
  by_contra hne
  have hne' : ¬ BitVec.ofNat 32 s.val = seg x0 n := fun q => hne q.symm
  unfold seg at hne'
  simp [IntOp.cmpi, beq_false_of_ne hne'] at e

end Cert.SoftHist
-- ==== Proof.Bounds.lean ====
module

public import proofs.«01_k».proof.Proof.Math

@[expose] public section

noncomputable section

/-!
How far the mass of a segment is from the count of its pixels, where the coordinates lie inside the image: a coordinate is
at most half a step away from a centre, so the bumps of a value add up to at least a third, and the added `eps` takes
from the mass of a pixel at most six times itself.
-/

namespace Cert.SoftHist

open Idealize.ShloMosaic

/-- The exponential of a number from minus one on is at least a third. -/
theorem third_le_exp (x : ℝ) (h : -1 ≤ x) : 1 / 3 ≤ Real.exp x := by
  have e : Real.exp x = Real.exp (x / 6) ^ 6 := by
    rw [← Real.exp_nat_mul]; congr 1; push_cast; ring
  rw [e]
  have b : 5 / 6 ≤ Real.exp (x / 6) := le_trans (by linarith) (Real.add_one_le_exp (x / 6))
  exact le_trans (by norm_num) (pow_le_pow_left₀ (by norm_num) b 6)

/-- At most half a step away from its centre, a bump is at least a third. -/
theorem third_le_bump (r : ℝ) (a : ℕ) (h1 : r - centre a ≤ 1 / 15) (h2 : -(1 / 15) ≤ r - centre a) :
    1 / 3 ≤ bump (r : EReal) a := by
  rw [bump_coe]
  refine third_le_exp _ ?_
  generalize r - centre a = d at h1 h2
  have hd : d * d ≤ 1 / 225 := by nlinarith
  have hs : sharp ≤ 225 := by unfold sharp; norm_num
  have := mul_le_mul hd hs sharp_pos.le (by norm_num)
  linarith

/-- The centre nearest to a pixel's coordinate. -/
theorem exists_centre (t : ℕ) (h : t < 224) : ∃ a : Fin 16, 224 * a.val ≤ 15 * t + 112 ∧ 15 * t ≤ 224 * a.val + 112 := by
  refine ⟨⟨(15 * t + 112) / 224, by omega⟩, ?_, ?_⟩
  · exact Nat.mul_div_le _ _
  · have := Nat.div_add_mod (15 * t + 112) 224
    have := Nat.mod_lt (15 * t + 112) (show 0 < 224 by omega)
    dsimp only
    omega

/-- The bumps of a coordinate inside the image add up to at least a third. -/
theorem third_le_bumps (t : ℕ) (h : t < 224) : 1 / 3 ≤ bumps (((t : ℝ) * (1 / 112) - 1 : ℝ) : EReal) := by
  obtain ⟨a, h1, h2⟩ := exists_centre t h
  have r1 : (224 : ℝ) * (a.val : ℝ) ≤ 15 * t + 112 := by exact_mod_cast h1
  have r2 : (15 : ℝ) * t ≤ 224 * (a.val : ℝ) + 112 := by exact_mod_cast h2
  generalize hr : (t : ℝ) * (1 / 112) - 1 = r
  refine le_trans (third_le_bump r a.val ?_ ?_)
    (Finset.single_le_sum (f := fun x : Fin 16 => bump (r : EReal) x.val) (fun x _ => bump_nonneg _ _) (Finset.mem_univ a))
  · unfold centre; linarith
  · unfold centre; linarith

/-- A number of at least a third over itself and `eps`. -/
theorem quotient_bounds (B : ℝ) (h : 1 / 3 ≤ B) : 1 - 3 * eps ≤ B / (B + eps) ∧ B / (B + eps) ≤ 1 := by
  have e := eps_pos
  have hp : 0 < B + eps := by linarith
  constructor
  · rw [le_div_iff₀ hp]; nlinarith
  · rw [div_le_one hp]; linarith

/-- The mass of a pixel inside the image. -/
theorem pixel_bounds (B C : ℝ) (hB : 1 / 3 ≤ B) (hC : 1 / 3 ≤ C) :
    1 - 6 * eps ≤ (B / (B + eps)) * (C / (C + eps)) ∧ (B / (B + eps)) * (C / (C + eps)) ≤ 1 := by
  obtain ⟨b1, b2⟩ := quotient_bounds B hB
  obtain ⟨c1, c2⟩ := quotient_bounds C hC
  have e : (0 : ℝ) ≤ 1 - 3 * eps := by norm_num [eps]
  constructor
  · have := mul_le_mul b1 c1 e (e.trans b1)
    nlinarith [sq_nonneg eps]
  · exact mul_le_one₀ b2 (e.trans c1) c2

section
variable (x0 : (⟨3, ![4, 224, 224]⟩ : Shape).Idx → BitVec 32) (x1 : (⟨2, ![3, 200704]⟩ : Shape).Idx → BitVec 32)
  (x2 : (⟨4, ![4, 2, 224, 224]⟩ : Shape).Idx → EReal)

/-- The count of the pixels of segment `s`. -/
def count (s : ℕ) : ℕ := ∑ n : Fin 200704, if seg x0 n = BitVec.ofNat 32 s then 1 else 0

/-- No segment counts more pixels than there are. -/
theorem count_le (s : ℕ) : count x0 s ≤ 200704 := by
  unfold count
  refine (Finset.sum_le_card_nsmul Finset.univ _ 1 fun n _ => ?_).trans ?_
  · split <;> omega
  · rw [Finset.card_univ, Fintype.card_fin]; rfl

/-- A segment that counts no pixel has none, and one that counts some has one. -/
theorem exists_of_count (s : ℕ) (h : count x0 s ≠ 0) : ∃ n : Fin 200704, seg x0 n = BitVec.ofNat 32 s := by
  by_contra hn
  exact h (Finset.sum_eq_zero fun n _ => if_neg fun e => hn ⟨n, e⟩)

/-- The coordinates lie inside the image. -/
def Inside : Prop := ∀ (c : Fin 3) (n : Fin 200704), c ≠ 0 → 0 ≤ (x1 (ix2 c n)).toInt ∧ (x1 (ix2 c n)).toInt < 224

/-- The bumps of a pixel's coordinate add up to at least a third. -/
theorem third_le_place (h : Inside x1) (c : Fin 3) (n : Fin 200704) (hc : c ≠ 0) : 1 / 3 ≤ bumps (place x1 c n : EReal) := by
  obtain ⟨h0, h1⟩ := h c n hc
  unfold place
  obtain ⟨t, ht⟩ := Int.eq_ofNat_of_zero_le h0
  have := third_le_bumps t (by omega)
  rw [ht]
  exact_mod_cast this

/-- The mass of a segment against the count of its pixels. -/
theorem total_bounds (h : Inside x1) (s : ℕ) :
    (1 - 6 * eps) * count x0 s ≤ total x0 x1 x2 s ∧ total x0 x1 x2 s ≤ count x0 s := by
  have key : ∀ n : Fin 200704, 1 - 6 * eps ≤ (∑ a : Fin 16, weight (first x1 x2 0 n) a) * (∑ b : Fin 16, weight (second x1 x2 0 n) b)
      ∧ (∑ a : Fin 16, weight (first x1 x2 0 n) a) * (∑ b : Fin 16, weight (second x1 x2 0 n) b) ≤ 1 := by
    intro n
    rw [sum_weight, sum_weight]
    exact pixel_bounds _ _ (third_le_place x1 h 1 n (by decide)) (third_le_place x1 h 2 n (by decide))
  unfold total count
  rw [mass_eq]
  push_cast
  rw [Finset.mul_sum]
  constructor
  · refine Finset.sum_le_sum fun n _ => ?_
    split
    · rw [mul_one]; exact (key n).1
    · rw [mul_zero]
  · refine Finset.sum_le_sum fun n _ => ?_
    split
    · exact (key n).2
    · exact le_rfl

end

/-- The tolerance: the single-precision `1e-11`. -/
def tolerance : ℝ := 11529215 / 2 ^ 60

/-- The word of the tolerance. -/
theorem tolerance_word : Ideal.ofBits .f32 0x2D2FEBFF#32 = (tolerance : EReal) := by
  simp [Ideal.ofBits, Ideal.ieee, -EReal.coe_mul, tolerance]; norm_num

/-- Dividing by a mass between `1 - 6 eps` times a count and the count. -/
theorem near (h m k : ℝ) (hh : 0 ≤ h) (hk : 0 < k) (h1 : (1 - 6 * eps) * k ≤ m) (h2 : m ≤ k) :
    max (4 * h / m - 4 * h / k) (-(4 * h / m - 4 * h / k)) ≤ tolerance * (4 * h / k) := by
  have he : 0 < 1 - 6 * eps := by norm_num [eps]
  have hm : 0 < m := lt_of_lt_of_le (mul_pos he hk) h1
  have hq : 0 ≤ 4 * h / k := by positivity
  have e : 4 * h / m = 4 * h / k * (k / m) := by field_simp
  have r1 : 1 ≤ k / m := by rw [le_div_iff₀ hm]; linarith
  have r2 : k / m ≤ 1 + tolerance := by
    rw [div_le_iff₀ hm]
    have ht : 1 ≤ (1 + tolerance) * (1 - 6 * eps) := by norm_num [eps, tolerance]
    have hp : 0 ≤ 1 + tolerance := by norm_num [tolerance]
    have := mul_le_mul_of_nonneg_left h1 hp
    nlinarith
  rw [e]
  refine max_le ?_ ?_
  · nlinarith
  · have : 0 ≤ tolerance := by norm_num [tolerance]
    nlinarith [mul_nonneg this hq]

end Cert.SoftHist
-- ==== Proof.Counted.lean ====
module

public import proofs.«01_k».proof.Proof.Gen.Post_close
public import proofs.«01_k».proof.Proof.Gen.Pre_in_range
public import proofs.«01_k».proof.Proof.Windows
public import proofs.«01_k».proof.Proof.Bounds

@[expose] public section

set_option maxRecDepth 16384

noncomputable section

/-!
The postcondition and the precondition, read at an index: the count of each segment's pixels, the quotient by a quarter of
the count, and the ranges of the ids and the coordinates.
-/

namespace Cert.SoftHist

open Idealize.ShloMosaic Idealize.ShloMosaic.TcCoe Idealize.ShloMosaic.Tactic
open Cert.ReferenceIdeal Cert.ReferenceIdeal.Gen Cert.ReferenceIdeal.Read

/-- The ids that the count reads: a negative one raised to zero, none then wrapped around. -/
def wrapped (g : IVec S200704 32) : IVec S200704 32 :=
  let k := maxsi (broadcastInDim S200704 ![] Cert.Post_close.Gen.bcast_S_S200704 (id (constantI S_ 32 0#32))) g
  select (cmpi .slt k (broadcastInDim S200704 ![] Cert.Post_close.Gen.bcast_S_S200704 (constantI S_ 32 0#32)))
    (addi k (broadcastInDim S200704 ![] Cert.Post_close.Gen.bcast_S_S200704 (constantI S_ 32 1024#32))) k

/-- The count of the pixels of each segment. -/
def counted (g : IVec S200704 32) : IVec S1024 32 :=
  Host.scatter scatter_S1024_S200704x1_S200704_n_0_0_1 IntOp.addi
    (broadcastInDim S1024 ![] bcast_S_S1024 (constantI S_ 32 0#32)) (column (wrapped g))
    (broadcastInDim S200704 ![] Cert.Post_close.Gen.bcast_S_S200704 (constantI S_ 32 1#32))

/-- The segments that count no pixel, or where the result is near the quotient. -/
def closeTo (h out : FVec Ideal S1024x2x16x16 .f32) (z : FVec Ideal S1024 .f32) : IVec S1024x2x16x16 1 :=
  ori (broadcastInDim S1024x2x16x16 ![0, 1, 2, 3] bcast_S1024x1x1x1_S1024x2x16x16_0_1_2_3
      (broadcastInDim S1024x1x1x1 ![0] bcast_S1024_S1024x1x1x1_0
        (cmpf .oeq z (broadcastInDim S1024 ![] bcast_S_S1024 (constant S_ .f32 0x00000000#32)))))
    (cmpf .ole (Host.absf (subf out (shared h z)))
      (mulf (broadcastInDim S1024x2x16x16 ![] Cert.Post_close.Gen.bcast_S_S1024x2x16x16 (constant S_ .f32 0x2D2FEBFF#32)) (shared h z)))

section
variable (x0 : IVec S4x224x224 32) (x1 : IVec S3x200704 32) (x2 : FVec Ideal S4x2x224x224 .f32) (out : FVec Ideal S1024x2x16x16 .f32)

/-- The word of a proposition is one where the proposition holds. -/
theorem of_word (q : Prop) [Decidable q] (h : BitVec.ofBool (decide q) = 1#1) : q := by
  by_contra hn
  rw [decide_eq_false hn] at h
  exact absurd h (by decide)

/-- The postcondition, stage by stage. -/
theorem close_eq : Cert.Post_close.fn (F := Ideal) x0 x1 x2 out
    = closeTo (hists x0 x1 x2) out (sitofp .f32 (counted (val_main_v0 (F := Ideal) x0))) := rfl

/-- No count, or a result near the quotient: the word is one. -/
theorem closeTo_apply (h : FVec Ideal S1024x2x16x16 .f32) (z : FVec Ideal S1024 .f32) (s : Fin 1024) (p : Fin 2) (a b : Fin 16)
    (e : z (ix1 s) = 0 ∨ max (out (ix4 s p a b) - shared h z (ix4 s p a b)) (-(out (ix4 s p a b) - shared h z (ix4 s p a b)))
      ≤ (tolerance : EReal) * shared h z (ix4 s p a b)) : closeTo h out z (ix4 s p a b) = 1#1 := by
  have both : ∀ u v : BitVec 1, u = 1#1 ∨ v = 1#1 → IntOp.ori u v = 1#1 := by decide
  pointwise [closeTo]
  refine both _ _ (e.imp (fun e => ?_) fun e => ?_)
  · rw [decide_eq_true e]; rfl
  · rw [tolerance_word]
    exact congrArg BitVec.ofBool (decide_eq_true e)

/-- An id that is not negative stays as it is. -/
theorem wrapped_apply (g : IVec S200704 32) (n : Fin 200704) (h : 0 ≤ (g (ix1 n)).toInt) : wrapped g (ix1 n) = g (ix1 n) := by
  have z : id (constantI S_ 32 0#32) ix0 = 0#32 := rfl
  pointwise [wrapped]
  rw [z]
  generalize g (ix1 n) = w at h ⊢
  have e : IntOp.maxsi 0#32 w = w := by
    unfold IntOp.maxsi
    have : (0#32 : BitVec 32).toInt = 0 := rfl
    split <;> rename_i q
    · simp [BitVec.slt, BitVec.sle] at q
      first | exact rfl | (apply BitVec.eq_of_toInt_eq; omega)
    · simp [BitVec.slt, BitVec.sle] at q
      first | exact rfl | (apply BitVec.eq_of_toInt_eq; omega)
  rw [e]
  have c : IntOp.cmpi CmpIPredicate.slt w 0#32 = 0#1 := by
    have : BitVec.slt w 0#32 = false := by simp [BitVec.slt]; omega
    simp [IntOp.cmpi, this]
  rw [c]
  rfl

/-- Counting by words: the word of the count. -/
theorem fold_addi {ι : Type} (P : ι → Prop) [DecidablePred P] (L : List ι) (k : ℕ) :
    L.foldl (fun a n => if P n then IntOp.addi a 1#32 else a) (BitVec.ofNat 32 k)
      = BitVec.ofNat 32 (k + (L.map fun n => if P n then 1 else 0).sum) := by
  induction L generalizing k with
  | nil => rfl
  | cons n L ih =>
    rw [List.foldl_cons, List.map_cons, List.sum_cons]
    by_cases e : P n
    · rw [if_pos e, if_pos e, ← add_assoc, ← ih]
      congr 1
      exact (BitVec.ofNat_add k 1).symm
    · rw [if_neg e, if_neg e, zero_add]
      exact ih k

/-- The count of a segment's pixels. -/
theorem counted_apply (g : IVec S200704 32) (s : Fin 1024) :
    counted g (ix1 s) = BitVec.ofNat 32 (∑ n : Fin 200704, if wrapped g (ix1 n) = BitVec.ofNat 32 s.val then 1 else 0) := by
  unfold counted
  rw [Routing.scatter_at]
  refine (fold_addi (fun n => scatter_S1024_S200704x1_S200704_n_0_0_1.resultIdx? (S200704.rowMajor.symm n) (column (wrapped g)) = some (ix1 s))
    (List.finRange S200704.numel) 0).trans ?_
  rw [zero_add, ← Fin.sum_univ_def]
  refine congrArg (BitVec.ofNat 32) ?_
  refine (Equiv.sum_comp S200704.rowMajor.symm
    (fun j => if scatter_S1024_S200704x1_S200704_n_0_0_1.resultIdx? j (column (wrapped g)) = some (ix1 s) then 1 else 0)).trans ?_
  refine Finset.sum_nbij' (fun j => j 0) (fun n => ix1 n) ?_ ?_ ?_ ?_ ?_
  · intro j _; exact Finset.mem_univ _
  · intro n _; exact Finset.mem_univ _
  · intro j _; exact (eq_ix1 j).symm
  · intro n _; rfl
  · intro j _
    rw [eq_ix1 j]
    exact if_congr (lands_one (wrapped g) _ s) rfl rfl

/-- A word that is the conjunction of two comparisons holds both. -/
theorem of_andi (u v : BitVec 1) (h : IntOp.andi u v = 1#1) : u = 1#1 ∧ v = 1#1 := by
  revert u v; decide

/-- The ids that the precondition takes are not negative. -/
theorem range_apply (h : (Cert.Pre_in_range.fn (F := Ideal) x0 x1 x2).1 = fun _ => 1#1) (n : Fin 200704) : 0 ≤ (seg x0 n).toInt := by
  have e := congrFun h (ix3 ⟨n.val / 50176, by omega⟩ ⟨n.val / 224 % 224, by omega⟩ ⟨n.val % 224, by omega⟩)
  unfold Cert.Pre_in_range.fn at e
  dsimp only at e
  pointwise at e
  have e1 := (of_andi _ _ e).1
  unfold seg
  exact of_word _ (by simpa [IntOp.cmpi, BitVec.sle] using e1)

/-- The coordinates that the precondition takes lie inside the image. -/
theorem inside_apply (h : (Cert.Pre_in_range.fn (F := Ideal) x0 x1 x2).2 = fun _ => 1#1) : Inside x1 := by
  intro c n hc
  have e := congrFun h (ix2 ⟨c.val - 1, by omega⟩ n)
  unfold Cert.Pre_in_range.fn at e
  dsimp only at e
  pointwise at e
  have hv : c.val ≠ 0 := fun q => hc (Fin.ext q)
  have ec : (⟨1 + (c.val - 1), by omega⟩ : Fin 3) = c := Fin.ext (by dsimp only; omega)
  rw [ec] at e
  obtain ⟨e1, e2⟩ := of_andi _ _ e
  constructor
  · exact of_word _ (by simpa [IntOp.cmpi, BitVec.sle] using e1)
  · exact of_word _ (by simpa [IntOp.cmpi, BitVec.slt] using e2)

/-- The word of a count is the count. -/
theorem toInt_small (k : ℕ) (h : k ≤ 200704) : (BitVec.ofNat 32 k).toInt = (k : ℤ) := by
  rw [BitVec.toInt_ofNat']
  exact Int.bmod_eq_of_le (by omega) (by omega)

/-- The count as a number. -/
theorem size_apply (h : (Cert.Pre_in_range.fn (F := Ideal) x0 x1 x2).1 = fun _ => 1#1) (s : Fin 1024) :
    sitofp (F := Ideal) .f32 (counted (val_main_v0 (F := Ideal) x0)) (ix1 s) = ((count x0 s.val : ℝ) : EReal) := by
  have e : counted (val_main_v0 (F := Ideal) x0) (ix1 s) = BitVec.ofNat 32 (count x0 s.val) := by
    rw [counted_apply]
    refine congrArg (BitVec.ofNat 32) ?_
    unfold count
    refine Finset.sum_congr rfl fun n _ => ?_
    rw [wrapped_apply _ n (by rw [ids_apply]; exact range_apply x0 x1 x2 h n), ids_apply]
  have k := count_le x0 s.val
  have t : (BitVec.ofNat 32 (count x0 s.val)).toInt = (count x0 s.val : ℤ) := toInt_small _ k
  pointwise
  rw [e]
  show (((BitVec.ofNat 32 (count x0 s.val)).toInt : ℝ) : EReal) = _
  rw [t, Int.cast_natCast]

/-- The quotient by a quarter of the count. -/
theorem shared_count (h : (Cert.Pre_in_range.fn (F := Ideal) x0 x1 x2).1 = fun _ => 1#1) (s : Fin 1024) (p : Fin 2) (a b : Fin 16)
    (hk : (count x0 s.val : ℝ) ≠ 0) :
    shared (hists x0 x1 x2) (sitofp .f32 (counted (val_main_v0 (F := Ideal) x0))) (ix4 s p a b)
      = ((4 * histogram x0 x1 x2 s.val p a b / count x0 s.val : ℝ) : EReal) := by
  rw [shared_apply, hists_apply, size_apply x0 x1 x2 h, quotient_eq _ _ hk]

/-- A result that is the answer at every segment with a pixel fulfils the postcondition. -/
theorem close_apply (h1 : (Cert.Pre_in_range.fn (F := Ideal) x0 x1 x2).1 = fun _ => 1#1)
    (h2 : (Cert.Pre_in_range.fn (F := Ideal) x0 x1 x2).2 = fun _ => 1#1)
    (ho : ∀ (s : Fin 1024) (p : Fin 2) (a b : Fin 16) (n : Fin 200704), seg x0 n = BitVec.ofNat 32 s.val →
      out (ix4 s p a b) = (answer x0 x1 x2 s.val p a b : EReal)) :
    Cert.Post_close.fn (F := Ideal) x0 x1 x2 out = fun _ => 1#1 := by
  rw [close_eq]
  funext i
  obtain ⟨s, p, a, b, rfl⟩ : ∃ (s : Fin 1024) (p : Fin 2) (a b : Fin 16), i = ix4 s p a b := ⟨i 0, i 1, i 2, i 3, eq_ix4 i⟩
  refine closeTo_apply _ _ _ s p a b ?_
  by_cases hk : count x0 s.val = 0
  · left
    rw [size_apply x0 x1 x2 h1, hk, Nat.cast_zero, EReal.coe_zero]
  · right
    obtain ⟨n, hn⟩ := exists_of_count x0 s.val hk
    have kp : (0 : ℝ) < count x0 s.val := Nat.cast_pos.2 (Nat.pos_of_ne_zero hk)
    obtain ⟨b1, b2⟩ := total_bounds x0 x1 x2 (inside_apply x0 x1 x2 h2) s.val
    have hh : 0 ≤ histogram x0 x1 x2 s.val p a b := hist_nonneg _ _ _ _ _ _
    rw [shared_count x0 x1 x2 h1 s p a b kp.ne', ho s p a b n hn]
    unfold answer
    rw [← EReal.coe_sub, ← EReal.coe_neg, ← EReal.coe_strictMono.monotone.map_max, ← EReal.coe_mul]
    exact EReal.coe_le_coe_iff.2 (near _ _ _ hh kp b1 b2)

end

end Cert.SoftHist
-- ==== Proof.Claims.lean ====
module

public import proofs.«01_k».proof.Defs
public import proofs.«01_k».proof.Proof.Gen.Kernel.Frame
public import proofs.«01_k».proof.Proof.Gen.On_nonempty
public import proofs.«01_k».proof.Proof.Result
public import proofs.«01_k».proof.Proof.Windows
public import proofs.«01_k».proof.Proof.Mask
public import proofs.«01_k».proof.Proof.Counted

@[expose] public section

noncomputable section

/-!
The frames, the idealization, the equality of the kernel and the reference, and the distance of the kernel's result
from the quotient by the count of the pixels.
-/

namespace Cert.SoftHist

open Idealize.ShloMosaic Idealize.ShloMosaic.TcCoe Idealize.ShloMosaic.Tactic Idealize.SL.Sem

/-- The reference runs, with its stages' value as its result and its arguments unchanged. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v118)
            = Cert.ReferenceIdeal.Read.val_main_v118 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run Cert.ReferenceIdeal.defs _ _).mono
    (fun _ h c => ⟨(h c).1.trans (Cert.ReferenceIdeal.Read.val_main_v118_eq (StableHlo.launchContents m c)), (h c).2⟩)
    (Cert.ReferenceIdeal.Value.run (F := Ideal) m g)

/-- The kernel runs and leaves its arguments. -/
theorem frame_kernel : Cert.quiescent_Kernel := fun m g _ => Cert.Kernel.Gen.frame m g

/-- The idealized kernel runs and leaves its arguments. -/
theorem frame_ideal : Cert.quiescent_KernelIdeal := fun m g _ => Cert.KernelIdeal.Gen.frame m g

/-- The same where the ids and the coordinates are in range. -/
theorem frame_in_range : Cert.quiescent_KernelIdeal_pre_in_range := fun m g _ => Cert.KernelIdeal.Gen.frame m g

/-- The reference runs and leaves its arguments; it has no counters. -/
theorem frame_reference : Cert.quiescent_ReferenceIdeal := fun m g _ =>
  (θ_run Cert.ReferenceIdeal.defs _ _).mono (fun r h => ⟨fun c => (h c).2, sem_eq_zero_of_no_sems (by decide) r.2⟩) (run_reference m g)

/-- Each replaced number is the one that its name stands for. -/
theorem named : Cert.preserves_Kernel_KernelIdeal :=
  ⟨IdealRules.named_const.statement Cert.KernelIdeal.κ "step" .f32 0x3E088889#32 _ rfl,
    IdealRules.named_const.statement Cert.KernelIdeal.κ "two_over_side" .f32 0x3C124925#32 _ rfl,
    IdealRules.named_const.statement Cert.KernelIdeal.κ "inv2s2" .f32 0x43480000#32 _ rfl⟩

/-- At every segment with a pixel the kernel's result and the reference's are the same number. -/
theorem equal : Cert.algebraic_KernelIdeal_ReferenceIdeal_on_nonempty := by
  intro m g m' g' _ hargs
  refine ⟨fun c => Cert.KernelIdeal.Hist.result m c, ?_, ?_⟩
  · exact (θ_run Cert.KernelIdeal.defs _ _).mono (fun _ h c => ⟨fun i _ => congrFun (h c).1 i, (h c).2⟩)
      (Cert.KernelIdeal.Hist.run_result m g)
  · refine (θ_run Cert.ReferenceIdeal.defs _ _).mono (fun _ h c => ⟨fun i hi => ?_, (h c).2⟩) (run_reference m' g')
    refine (congrFun (h c).1 i).trans ?_
    rw [(hargs c).1, (hargs c).2.1, (hargs c).2.2]
    rw [eq_ix4 i] at hi ⊢
    obtain ⟨n, hn⟩ := nonempty_apply _ _ _ _ _ _ _ hi
    exact (reference_answer _ _ _ _ _ _ _ n hn).trans (Cert.KernelIdeal.Hist.result_answer m c _ _ _ _ n hn).symm

/-- Where the ids and the coordinates are in range, the kernel's result is near the quotient by the count. -/
theorem close : Cert.holds_KernelIdeal_close_pre_in_range := by
  intro m g hpre
  refine (θ_run Cert.KernelIdeal.defs _ _).mono (fun _ h c => ⟨(h c).2.1, (h c).2.2.1, (h c).2.2.2, ?_⟩)
    (Cert.KernelIdeal.Hist.run_result m g)
  rw [(h c).1]
  exact close_apply _ _ _ _ (hpre c).1 (hpre c).2 fun s p a b n hn => Cert.KernelIdeal.Hist.result_answer m c s p a b n hn

end Cert.SoftHist
-- ==== Proof.lean ====
/- The certificate: the facts that the programs state, and the claims as `Proof/Claims.lean` proves them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_nonempty
public import proofs.«01_k».proof.Proof.Gen.Pre_in_range
public import proofs.«01_k».proof.Proof.Gen.Post_close
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Post_close.Gen.facts, Cert.On_nonempty.Gen.facts, Cert.SoftHist.frame_kernel, Cert.SoftHist.frame_ideal,
    Cert.SoftHist.frame_in_range, Cert.SoftHist.frame_reference, Cert.SoftHist.named, Cert.SoftHist.equal, Cert.SoftHist.close⟩

end Cert.Proof

end
